-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_in_range [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_classes_in_range [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_classes_in_range [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_classes_in_range : Cert.Pre_classes_in_range.Facts),
    quiescent_Kernel (hKernel := hKernel)
    ∧ quiescent_KernelIdeal (hKernelIdeal := hKernelIdeal)
    ∧ quiescent_KernelIdeal_pre_classes_in_range (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal_pre_classes_in_range (hKernelIdeal := hKernelIdeal) (hReferenceIdeal := hReferenceIdeal) (hPre_classes_in_range := hPre_classes_in_range)
-- ==== Pre_classes_in_range.lean ====
abbrev S16384x1000 : Shape := ⟨2, ![16384, 1000]⟩
abbrev S1000 : Shape := ⟨1, ![1000]⟩
abbrev S10 : Shape := ⟨1, ![10]⟩
abbrev S_ : Shape := ⟨0, ![]⟩

class Facts : Prop where
  bcast_S_S1000 : S_.BroadcastsInDim S1000 (![] : Fin 0 → Fin S1000.rank)

variable [Facts]

def fn {F : FTy → Type} [FloatOps F] (main_arg0 : FVec F S16384x1000 .f32) (main_arg1 : IVec S1000 32) (main_arg2 : FVec F S10 .f32) (main_arg3 : FVec F S10 .f32) : IVec S1000 1 :=
  let main_c : IVec S_ 32 := constantI S_ 32 0#32
  let main_v0 : IVec S1000 32 := broadcastInDim S1000 ![] bcast_S_S1000 main_c
  let main_v1 : IVec S1000 1 := cmpi .sge main_arg1 main_v0
  let main_c_0 : IVec S_ 32 := constantI S_ 32 10#32
  let main_v2 : IVec S1000 32 := broadcastInDim S1000 ![] bcast_S_S1000 main_c_0
  let main_v3 : IVec S1000 1 := cmpi .slt main_arg1 main_v2
  let main_v4 : IVec S1000 1 := andi main_v1 main_v3
  main_v4
-- ==== Kernel.lean ====
abbrev S16384x1000 : Shape := ⟨2, ![16384, 1000]⟩
abbrev S1000 : Shape := ⟨1, ![1000]⟩
abbrev S10 : Shape := ⟨1, ![10]⟩
abbrev S1000x16384 : Shape := ⟨2, ![1000, 16384]⟩
abbrev S1000x1 : Shape := ⟨2, ![1000, 1]⟩
abbrev S1x16384 : Shape := ⟨2, ![1, 16384]⟩
abbrev S1000x2048 : Shape := ⟨2, ![1000, 2048]⟩
abbrev S1x2048 : Shape := ⟨2, ![1, 2048]⟩
abbrev S1 : Shape := ⟨1, ![1]⟩
abbrev S2048 : Shape := ⟨1, ![2048]⟩
abbrev S16384 : Shape := ⟨1, ![16384]⟩
abbrev S_ : Shape := ⟨0, ![]⟩

abbrev nBuf : Space → Nat
  | .hbm => 14
  | .vmem => 9
  | .smem => 2
  | _ => 0

abbrev bufTy : (tb : Table) → Fin (tcTables nBuf tb) → BufTy
  | .hbm, ⟨0, _⟩ => ⟨S16384x1000, .f32⟩
  | .hbm, ⟨1, _⟩ => ⟨S1000, .i32⟩
  | .hbm, ⟨2, _⟩ => ⟨S10, .f32⟩
  | .hbm, ⟨3, _⟩ => ⟨S10, .f32⟩
  | .hbm, ⟨4, _⟩ => ⟨S1000x16384, .f32⟩
  | .hbm, ⟨5, _⟩ => ⟨S1000x1, .i32⟩
  | .hbm, ⟨6, _⟩ => ⟨S1x16384, .i32⟩
  | .hbm, ⟨7, _⟩ => ⟨S1x16384, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S16384, .i1⟩
  | .local _ .vmem, ⟨0, _⟩ => ⟨S1000x1, .i32⟩
  | .local _ .vmem, ⟨1, _⟩ => ⟨S1000x2048, .f32⟩
  | .local _ .vmem, ⟨2, _⟩ => ⟨S1000x2048, .f32⟩
  | .local _ .vmem, ⟨3, _⟩ => ⟨S1x2048, .i32⟩
  | .local _ .vmem, ⟨4, _⟩ => ⟨S1x2048, .i32⟩
  | .local _ .vmem, ⟨5, _⟩ => ⟨S1x2048, .i32⟩
  | .local _ .vmem, ⟨6, _⟩ => ⟨S1x2048, .i32⟩
  | .local _ .vmem, ⟨7, _⟩ => ⟨S1000x1, .f32⟩
  | .local _ .vmem, ⟨8, _⟩ => ⟨S1000x1, .f32⟩
  | .local _ .smem, ⟨0, _⟩ => ⟨S10, .f32⟩
  | .local _ .smem, ⟨1, _⟩ => ⟨S10, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1000x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x1000 : Shape := ⟨2, ![16384, 1000]⟩
abbrev S1000 : Shape := ⟨1, ![1000]⟩
abbrev S10 : Shape := ⟨1, ![10]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1x1000 : Shape := ⟨2, ![1, 1000]⟩
abbrev S16384 : Shape := ⟨1, ![16384]⟩

abbrev nBuf : Space → Nat
  | .hbm => 81
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000, .i32⟩
  | .hbm, ⟨2, _⟩ => ⟨S10, .f32⟩
  | .hbm, ⟨3, _⟩ => ⟨S10, .f32⟩
  | .hbm, ⟨4, _⟩ => ⟨S_, .f32⟩
  | .hbm, ⟨5, _⟩ => ⟨S10, .f32⟩
  | .hbm, ⟨6, _⟩ => ⟨S10, .f32⟩
  | .hbm, ⟨7, _⟩ => ⟨S_, .i32⟩
  | .hbm, ⟨8, _⟩ => ⟨S1000, .i32⟩
  | .hbm, ⟨9, _⟩ => ⟨S1000, .i1⟩
  | .hbm, ⟨10, _⟩ => ⟨S_, .i32⟩
  | .hbm, ⟨11, _⟩ => ⟨S1000, .i32⟩
  | .hbm, ⟨12, _⟩ => ⟨S1000, .i32⟩
  | .hbm, ⟨13, _⟩ => ⟨S1000, .i32⟩
  | .hbm, ⟨14, _⟩ => ⟨S1000x1, .i32⟩
  | .hbm, ⟨15, _⟩ => ⟨S1, .i32⟩
  | .hbm, ⟨16, _⟩ => ⟨S_, .i32⟩
  | .hbm, ⟨17, _⟩ => ⟨S1000x1, .i32⟩
  | .hbm, ⟨18, _⟩ => ⟨S1000x1, .i1⟩
  | .hbm, ⟨19, _⟩ => ⟨S1x1, .i32⟩
  | .hbm, ⟨20, _⟩ => ⟨S1000x1, .i32⟩
  | .hbm, ⟨21, _⟩ => ⟨S1000x1, .i1⟩
  | .hbm, ⟨22, _⟩ => ⟨S1000x1, .i1⟩
  | .hbm, ⟨23, _⟩ => ⟨S_, .i1⟩
  | .hbm, ⟨24, _⟩ => ⟨S1000, .i1⟩
  | .hbm, ⟨25, _⟩ => ⟨S1000, .f32⟩
  | .hbm, ⟨26, _⟩ => ⟨S_, .f32⟩
  | .hbm, ⟨27, _⟩ => ⟨S1000, .f32⟩
  | .hbm, ⟨28, _⟩ => ⟨S1000, .f32⟩
  | .hbm, ⟨29, _⟩ => ⟨S_, .f32⟩
  | .hbm, ⟨30, _⟩ => ⟨S_, .f32⟩
  | .hbm, ⟨31, _⟩ => ⟨S1000, .f32⟩
  | .hbm, ⟨32, _⟩ => ⟨S1000, .f32⟩
  | .hbm, ⟨33, _⟩ => ⟨S_, .i32⟩
  | .hbm, ⟨34, _⟩ => ⟨S1000, .i32⟩
  | .hbm, ⟨35, _⟩ => ⟨S1000, .i1⟩
  | .hbm, ⟨36, _⟩ => ⟨S_, .i32⟩
  | .hbm, ⟨37, _⟩ => ⟨S1000, .i32⟩
  | .hbm, ⟨38, _⟩ => ⟨S1000, .i32⟩
  | .hbm, ⟨39, _⟩ => ⟨S1000, .i32⟩
  | .hbm, ⟨40, _⟩ => ⟨S1000x1, .i32⟩
  | .hbm, ⟨41, _⟩ => ⟨S1, .i32⟩
  | .hbm, ⟨42, _⟩ => ⟨S_, .i32⟩
  | .hbm, ⟨43, _⟩ => ⟨S1000x1, .i32⟩
  | .hbm, ⟨44, _⟩ => ⟨S1000x1, .i1⟩
  | .hbm, ⟨45, _⟩ => ⟨S1x1, .i32⟩
  | .hbm, ⟨46, _⟩ => ⟨S1000x1, .i32⟩
  | .hbm, ⟨47, _⟩ => ⟨S1000x1, .i1⟩
  | .hbm, ⟨48, _⟩ => ⟨S1000x1, .i1⟩
  | .hbm, ⟨49, _⟩ => ⟨S_, .i1⟩
  | .hbm, ⟨50, _⟩ => ⟨S1000, .i1⟩
  | .hbm, ⟨51, _⟩ => ⟨S1000, .f32⟩
  | .hbm, ⟨52, _⟩ => ⟨S_, .f32⟩
  | .hbm, ⟨53, _⟩ => ⟨S1000, .f32⟩
  | .hbm, ⟨54, _⟩ => ⟨S1000, .f32⟩
  | .hbm, ⟨55, _⟩ => ⟨S1x1000, .f32⟩
  | .hbm, ⟨56, _⟩ => ⟨S16384x1000, .f32⟩
  | .hbm, ⟨57, _⟩ => ⟨S16384x1000, .f32⟩
  | .hbm, ⟨58, _⟩ => ⟨S16384x1000, .i32⟩
  | .hbm, ⟨59, _⟩ => ⟨S_, .f32⟩
  | .hbm, ⟨60, _⟩ => ⟨S_, .i32⟩
  | .hbm, ⟨61, _⟩ => ⟨S16384, .f32⟩
  | .hbm, ⟨62, _⟩ => ⟨S16384, .i32⟩
  | .hbm, ⟨63, _⟩ => ⟨S_, .f32⟩
  | .hbm, ⟨64, _⟩ => ⟨S1000, .f32⟩
  | .hbm, ⟨65, _⟩ => ⟨S1000, .f32⟩
  | .hbm, ⟨66, _⟩ => ⟨S1x1000, .f32⟩
  | .hbm, ⟨67, _⟩ => ⟨S16384x1000, .f32⟩
  | .hbm, ⟨68, _⟩ => ⟨S16384x1000, .f32⟩
  | .hbm, ⟨69, _⟩ => ⟨S_, .f32⟩
  | .hbm, ⟨70, _⟩ => ⟨S16384, .f32⟩
  | .hbm, ⟨71, _⟩ => ⟨S1000, .f32⟩
  | .hbm, ⟨72, _⟩ => ⟨S1x1000, .f32⟩
  | .hbm, ⟨73, _⟩ => ⟨S16384x1000, .f32⟩
  | .hbm, ⟨74, _⟩ => ⟨S16384x1000, .f32⟩
  | .hbm, ⟨75, _⟩ => ⟨S_, .f32⟩
  | .hbm, ⟨76, _⟩ => ⟨S16384, .f32⟩
  | .hbm, ⟨77, _⟩ => ⟨S_, .f32⟩
  | .hbm, ⟨78, _⟩ => ⟨S16384, .f32⟩
  | .hbm, ⟨79, _⟩ => ⟨S16384, .f32⟩
  | .hbm, ⟨80, _⟩ => ⟨S16384, .i1⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v3 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_call3_v0 : Ref sig .tc := ⟨.hbm, 58, rfl⟩
abbrev main_call3_cst : Ref sig .tc := ⟨.hbm, 59, rfl⟩
abbrev main_call3_c : Ref sig .tc := ⟨.hbm, 60, rfl⟩
abbrev main_call3_v1_0 : Ref sig .tc := ⟨.hbm, 61, rfl⟩
abbrev main_v8 : Ref sig .tc := ⟨.hbm, 62, rfl⟩
abbrev main_cst_1 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_2 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_cst_4 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩

abbrev nD : Nat := 1
abbrev τ : Topo := Topo.v7x

variable {F : FTy → Type} [FloatOps F]
-- ==== Proof.Points.lean ====
module
public import proofs.«01_k».proof.Proof.Gen.KernelIdeal.Frame
public import Idealize.ShloMosaic.Lib.Pipeline.ValueKit

/-! # What one grid point computes

The body of the kernel, read at a grid point: the first point fills two tables of one entry per class (the scale
`max (alpha / 10) eps` of the class and the weight `1 / scale - mu` of the class), and every point computes its block of
predictions and its block of rejections from its block of the posterior and from the tables. The tables are the same after every point. -/

@[expose] public section
noncomputable section

namespace Cert.Reject.Points
open Cert.KernelIdeal Cert.KernelIdeal.Gen Idealize.ShloMosaic Idealize.ShloMosaic.TcCoe Idealize.SL.Sem Idealize.ShloMosaic.Tactic

variable {F : FTy → Type} [FloatOps F]

/-- Entry `k` of one of the two small vectors of group parameters, as the body loads it: a load of one element. -/
def entry (x : Vec F S10 .f32) (k : Nat) (inb : ∀ a, (![k] : Fin 1 → Nat) a + S1.size a ≤ S10.size a) : Elt F .f32 :=
  View.ld x (Rect.unit ![k] S1.size inb) (Shape.Idx.first (s := S1) (by decide))

/-- A load of one element of a small vector is that element. -/
theorem entry_eq (x : Vec F S10 .f32) (k : Nat) (hk : k < 10) (inb : ∀ a, (![k] : Fin 1 → Nat) a + S1.size a ≤ S10.size a) :
    entry x k inb = x (ix1 ⟨k, hk⟩) := by
  show x _ = x _
  congr 1
  funext a
  apply Fin.ext
  match a with
  | ⟨0, _⟩ => rfl

/-- The alpha of every class: the chain of selections over the ten groups. -/
def alphaOf (cls : Vec F S1000x1 .i32) (al : Vec F S10 .f32) : FVec F S1000x1 .f32 :=
  k0_pay22 (k0_pay9 (F := F) cls) (k0_pay16 cls (entry al 0 inb_S10_S1_0) (entry al 1 inb_S10_S1_1) (entry al 2 inb_S10_S1_2) (entry al 3 inb_S10_S1_3) (entry al 4 inb_S10_S1_4))
    (entry al 5 inb_S10_S1_5) (entry al 6 inb_S10_S1_6) (entry al 7 inb_S10_S1_7) (entry al 8 inb_S10_S1_8) (entry al 9 inb_S10_S1_9)

/-- The mu of every class: the chain of selections over the ten groups. -/
def muOf (cls : Vec F S1000x1 .i32) (mu : Vec F S10 .f32) : FVec F S1000x1 .f32 :=
  k0_pay23 (k0_pay9 (F := F) cls) (k0_pay14 cls (entry mu 0 inb_S10_S1_0) (entry mu 1 inb_S10_S1_1) (entry mu 2 inb_S10_S1_2) (entry mu 3 inb_S10_S1_3)) (k0_pay15 (F := F) cls)
    (entry mu 4 inb_S10_S1_4) (entry mu 5 inb_S10_S1_5) (entry mu 6 inb_S10_S1_6) (entry mu 7 inb_S10_S1_7) (entry mu 8 inb_S10_S1_8) (entry mu 9 inb_S10_S1_9)

/-- The table of scales the first point stores. -/
def scales (cls : Vec F S1000x1 .i32) (al : Vec F S10 .f32) : FVec F S1000x1 .f32 := k0_pay2 (alphaOf cls al) k0_pay24

/-- The table of weights the first point stores. -/
def weights (cls : Vec F S1000x1 .i32) (al mu : Vec F S10 .f32) : FVec F S1000x1 .f32 :=
  k0_pay3 (alphaOf cls al) (muOf cls mu) k0_pay24

/-- The offset of a whole block. -/
theorem zero2 : (![0, 0] : Fin 2 → Nat) = fun _ => 0 := funext fun a => by fin_cases a <;> rfl

/-- The first point leaves the table of scales in the first scratch. -/
theorem sout0_A_0_eq (c : Dev nD) (i : grid0.Coords) (a1 : Memref sig .tc .vmem S1000x1 .i32) (h1 : a1.IsWhole) (a2 : Memref sig .tc .smem S10 .f32) (h2 : a2.IsWhole) (a3 : Memref sig .tc .smem S10 .f32) (h3 : a3.IsWhole)
    (a4 : Memref sig .tc .vmem S1000x2048 .f32) (h4 : a4.IsWhole) (a5 : Memref sig .tc .vmem S1x2048 .i32) (h5 : a5.IsWhole) (a6 : Memref sig .tc .vmem S1x2048 .i32) (h6 : a6.IsWhole)
    (a7 : Memref sig .tc .vmem S1000x1 .f32) (h7 : a7.IsWhole) (a8 : Memref sig .tc .vmem S1000x1 .f32) (h8 : a8.IsWhole) (hc : cond0_0 i)
    (cls : Vec F S1000x1 .i32) (al mu : Vec F S10 .f32) (p : Vec F S1000x2048 .f32) :
    sout0_A_0 c i a1 h1 a2 h2 a3 h3 a4 h4 a5 h5 a6 h6 a7 h7 a8 h8 hc cls al mu p = scales cls al := by
  unfold sout0_A_0
  rw [View.read_writes_eq_canon _ _ _ (scover0_A_0 c i a1 h1 a2 h2 a3 h3 a4 h4 a5 h5 a6 h6 a7 h7 a8 h8 hc cls al mu p)]
  unfold kernelRun0_A
  dsimp only
  sl_unfold_words
  rw [View.canon_unit_zero (S := S1000x1) zero2]
  simp only [View.readAt_eq_ld, h1.read_unread, h2.read_unread, h3.read_unread, h4.read_unread, View.ld_unit_zero (S := S1000x2048) zero2, View.ld_unit_zero (S := S1000x1) zero2]
  rfl

/-- The first point leaves the table of weights in the second scratch. -/
theorem sout0_A_1_eq (c : Dev nD) (i : grid0.Coords) (a1 : Memref sig .tc .vmem S1000x1 .i32) (h1 : a1.IsWhole) (a2 : Memref sig .tc .smem S10 .f32) (h2 : a2.IsWhole) (a3 : Memref sig .tc .smem S10 .f32) (h3 : a3.IsWhole)
    (a4 : Memref sig .tc .vmem S1000x2048 .f32) (h4 : a4.IsWhole) (a5 : Memref sig .tc .vmem S1x2048 .i32) (h5 : a5.IsWhole) (a6 : Memref sig .tc .vmem S1x2048 .i32) (h6 : a6.IsWhole)
    (a7 : Memref sig .tc .vmem S1000x1 .f32) (h7 : a7.IsWhole) (a8 : Memref sig .tc .vmem S1000x1 .f32) (h8 : a8.IsWhole) (hc : cond0_0 i)
    (cls : Vec F S1000x1 .i32) (al mu : Vec F S10 .f32) (p : Vec F S1000x2048 .f32) :
    sout0_A_1 c i a1 h1 a2 h2 a3 h3 a4 h4 a5 h5 a6 h6 a7 h7 a8 h8 hc cls al mu p = weights cls al mu := by
  unfold sout0_A_1
  rw [View.read_writes_eq_canon _ _ _ (scover0_A_1 c i a1 h1 a2 h2 a3 h3 a4 h4 a5 h5 a6 h6 a7 h7 a8 h8 hc cls al mu p)]
  unfold kernelRun0_A
  dsimp only
  sl_unfold_words
  rw [View.canon_unit_zero (S := S1000x1) zero2]
  simp only [View.readAt_eq_ld, h1.read_unread, h2.read_unread, h3.read_unread, h4.read_unread, View.ld_unit_zero (S := S1000x2048) zero2, View.ld_unit_zero (S := S1000x1) zero2]
  rfl

/-- The first point's predictions, from the tables it has just stored. -/
theorem out0_A_4_eq (c : Dev nD) (i : grid0.Coords) (a1 : Memref sig .tc .vmem S1000x1 .i32) (h1 : a1.IsWhole) (a2 : Memref sig .tc .smem S10 .f32) (h2 : a2.IsWhole) (a3 : Memref sig .tc .smem S10 .f32) (h3 : a3.IsWhole)
    (a4 : Memref sig .tc .vmem S1000x2048 .f32) (h4 : a4.IsWhole) (a5 : Memref sig .tc .vmem S1x2048 .i32) (h5 : a5.IsWhole) (a6 : Memref sig .tc .vmem S1x2048 .i32) (h6 : a6.IsWhole)
    (a7 : Memref sig .tc .vmem S1000x1 .f32) (h7 : a7.IsWhole) (a8 : Memref sig .tc .vmem S1000x1 .f32) (h8 : a8.IsWhole) (hc : cond0_0 i)
    (cls : Vec F S1000x1 .i32) (al mu : Vec F S10 .f32) (p : Vec F S1000x2048 .f32) :
    out0_A_4 c i a1 h1 a2 h2 a3 h3 a4 h4 a5 h5 a6 h6 a7 h7 a8 h8 hc cls al mu p = k0_pay7 (scales cls al) p := by
  unfold out0_A_4
  rw [View.read_writes_eq_canon _ _ _ (cover0_A_4 c i a1 h1 a2 h2 a3 h3 a4 h4 a5 h5 a6 h6 a7 h7 a8 h8 hc cls al mu p)]
  unfold kernelRun0_A
  dsimp only
  sl_unfold_words
  rw [View.canon_unit_zero (S := S1x2048) zero2]
  simp only [View.readCov_unit_zero (S := S1000x1) _ zero2]
  simp only [View.readAt_eq_ld, h1.read_unread, h2.read_unread, h3.read_unread, h4.read_unread, View.ld_unit_zero (S := S1000x2048) zero2, View.ld_unit_zero (S := S1000x1) zero2]
  rfl

/-- The first point's rejections, from the tables it has just stored. -/
theorem out0_A_5_eq (c : Dev nD) (i : grid0.Coords) (a1 : Memref sig .tc .vmem S1000x1 .i32) (h1 : a1.IsWhole) (a2 : Memref sig .tc .smem S10 .f32) (h2 : a2.IsWhole) (a3 : Memref sig .tc .smem S10 .f32) (h3 : a3.IsWhole)
    (a4 : Memref sig .tc .vmem S1000x2048 .f32) (h4 : a4.IsWhole) (a5 : Memref sig .tc .vmem S1x2048 .i32) (h5 : a5.IsWhole) (a6 : Memref sig .tc .vmem S1x2048 .i32) (h6 : a6.IsWhole)
    (a7 : Memref sig .tc .vmem S1000x1 .f32) (h7 : a7.IsWhole) (a8 : Memref sig .tc .vmem S1000x1 .f32) (h8 : a8.IsWhole) (hc : cond0_0 i)
    (cls : Vec F S1000x1 .i32) (al mu : Vec F S10 .f32) (p : Vec F S1000x2048 .f32) :
    out0_A_5 c i a1 h1 a2 h2 a3 h3 a4 h4 a5 h5 a6 h6 a7 h7 a8 h8 hc cls al mu p = k0_pay8 (scales cls al) p (weights cls al mu) := by
  unfold out0_A_5
  rw [View.read_writes_eq_canon _ _ _ (cover0_A_5 c i a1 h1 a2 h2 a3 h3 a4 h4 a5 h5 a6 h6 a7 h7 a8 h8 hc cls al mu p)]
  unfold kernelRun0_A
  dsimp only
  sl_unfold_words
  rw [View.canon_unit_zero (S := S1x2048) zero2]
  simp only [View.readCov_unit_zero (S := S1000x1) _ zero2]
  simp only [View.readAt_eq_ld, h1.read_unread, h2.read_unread, h3.read_unread, h4.read_unread, View.ld_unit_zero (S := S1000x2048) zero2, View.ld_unit_zero (S := S1000x1) zero2]
  rfl

/-- A later point's predictions, from the tables it finds. -/
theorem out0_B_4_eq (c : Dev nD) (i : grid0.Coords) (a1 : Memref sig .tc .vmem S1000x1 .i32) (h1 : a1.IsWhole) (a2 : Memref sig .tc .smem S10 .f32) (h2 : a2.IsWhole) (a3 : Memref sig .tc .smem S10 .f32) (h3 : a3.IsWhole)
    (a4 : Memref sig .tc .vmem S1000x2048 .f32) (h4 : a4.IsWhole) (a5 : Memref sig .tc .vmem S1x2048 .i32) (h5 : a5.IsWhole) (a6 : Memref sig .tc .vmem S1x2048 .i32) (h6 : a6.IsWhole)
    (a7 : Memref sig .tc .vmem S1000x1 .f32) (h7 : a7.IsWhole) (a8 : Memref sig .tc .vmem S1000x1 .f32) (h8 : a8.IsWhole) (hc : ¬cond0_0 i)
    (cls : Vec F S1000x1 .i32) (al mu : Vec F S10 .f32) (p : Vec F S1000x2048 .f32) (s w : Vec F S1000x1 .f32) :
    out0_B_4 c i a1 h1 a2 h2 a3 h3 a4 h4 a5 h5 a6 h6 a7 h7 a8 h8 hc cls al mu p s w = k0_pay7 s p := by
  unfold out0_B_4
  rw [View.read_writes_eq_canon _ _ _ (cover0_B_4 c i a1 h1 a2 h2 a3 h3 a4 h4 a5 h5 a6 h6 a7 h7 a8 h8 hc cls al mu p s w)]
  unfold kernelRun0_B
  dsimp only
  sl_unfold_words
  rw [View.canon_unit_zero (S := S1x2048) zero2]
  simp only [View.readAt_eq_ld, h4.read_unread, h7.read_unread, h8.read_unread, View.ld_unit_zero (S := S1000x2048) zero2, View.ld_unit_zero (S := S1000x1) zero2]

/-- A later point's rejections, from the tables it finds. -/
theorem out0_B_5_eq (c : Dev nD) (i : grid0.Coords) (a1 : Memref sig .tc .vmem S1000x1 .i32) (h1 : a1.IsWhole) (a2 : Memref sig .tc .smem S10 .f32) (h2 : a2.IsWhole) (a3 : Memref sig .tc .smem S10 .f32) (h3 : a3.IsWhole)
    (a4 : Memref sig .tc .vmem S1000x2048 .f32) (h4 : a4.IsWhole) (a5 : Memref sig .tc .vmem S1x2048 .i32) (h5 : a5.IsWhole) (a6 : Memref sig .tc .vmem S1x2048 .i32) (h6 : a6.IsWhole)
    (a7 : Memref sig .tc .vmem S1000x1 .f32) (h7 : a7.IsWhole) (a8 : Memref sig .tc .vmem S1000x1 .f32) (h8 : a8.IsWhole) (hc : ¬cond0_0 i)
    (cls : Vec F S1000x1 .i32) (al mu : Vec F S10 .f32) (p : Vec F S1000x2048 .f32) (s w : Vec F S1000x1 .f32) :
    out0_B_5 c i a1 h1 a2 h2 a3 h3 a4 h4 a5 h5 a6 h6 a7 h7 a8 h8 hc cls al mu p s w = k0_pay8 s p w := by
  unfold out0_B_5
  rw [View.read_writes_eq_canon _ _ _ (cover0_B_5 c i a1 h1 a2 h2 a3 h3 a4 h4 a5 h5 a6 h6 a7 h7 a8 h8 hc cls al mu p s w)]
  unfold kernelRun0_B
  dsimp only
  sl_unfold_words
  rw [View.canon_unit_zero (S := S1x2048) zero2]
  simp only [View.readAt_eq_ld, h4.read_unread, h7.read_unread, h8.read_unread, View.ld_unit_zero (S := S1000x2048) zero2, View.ld_unit_zero (S := S1000x1) zero2]

end Cert.Reject.Points
-- ==== Proof.FirstMax.lean ====
module
public import Idealize.ShloMosaic.PureOps.Ideal.Laws

/-! # The first class at which a row of scores is greatest

Both programs pick, in every row of scores, the first class whose score is the greatest of the row. This module says what
that class is and shows that the two ways of finding it give it: the least index among those whose score equals the
maximum, and a sweep that keeps the better of the entry in hand and the next one. -/

@[expose] public section
noncomputable section

namespace Cert.Reject
open Idealize.ShloMosaic

/-- One score per class. -/
abbrev Scores := Fin 1000 → EReal

/-- Class `j` is the first at which the scores are greatest. -/
def IsFirst (x : Scores) (j : Fin 1000) : Prop := (∀ i, x i ≤ x j) ∧ ∀ i, x i = x j → j ≤ i

/-- Some class is the first at which the scores are greatest. -/
theorem exists_isFirst (x : Scores) : ∃ j, IsFirst x j := by
  classical
  obtain ⟨k, -, hk⟩ := Finset.exists_max_image (Finset.univ : Finset (Fin 1000)) x ⟨0, Finset.mem_univ _⟩
  obtain ⟨j, hj, hjm⟩ := Finset.exists_min_image (Finset.univ.filter fun i => x i = x k) (fun i => i)
    ⟨k, Finset.mem_filter.mpr ⟨Finset.mem_univ _, rfl⟩⟩
  have e : x j = x k := (Finset.mem_filter.mp hj).2
  exact ⟨j, fun i => e ▸ hk i (Finset.mem_univ _), fun i hi => hjm i (Finset.mem_filter.mpr ⟨Finset.mem_univ _, hi.trans e⟩)⟩

/-- The first class at which the scores are greatest. -/
def first (x : Scores) : Fin 1000 := Classical.choose (exists_isFirst x)

/-- It is the first class of greatest score. -/
theorem first_isFirst (x : Scores) : IsFirst x (first x) := Classical.choose_spec (exists_isFirst x)

/-- The greatest score. -/
def peak (x : Scores) : EReal := x (first x)

/-- No score is above the greatest one. -/
theorem le_peak (x : Scores) (i : Fin 1000) : x i ≤ peak x := (first_isFirst x).1 i

/-- The maximum taken from the bottom over all classes is the greatest score. -/
theorem fold_max_eq_peak (x : Scores) : (Finset.univ : Finset (Fin 1000)).fold max ⊥ x = peak x :=
  le_antisymm ((Finset.fold_max_le _).mpr ⟨bot_le, fun i _ => le_peak x i⟩)
    ((Finset.le_fold_max _).mpr (Or.inr ⟨first x, Finset.mem_univ _, le_rfl⟩))

/-- The word of a class number, read signed, is the number. -/
theorem toInt_class (n : Nat) (h : n ≤ 1000) : (BitVec.ofNat 32 n).toInt = (n : Int) := by
  rw [BitVec.toInt_ofNat']
  exact Int.bmod_eq_of_le (by omega) (by omega)

/-- Words of class numbers, read signed, are ordered as the numbers. -/
theorem toInt_minsi (a b : BitVec 32) : (IntOp.minsi a b).toInt = min a.toInt b.toInt := by
  unfold IntOp.minsi
  by_cases h : a.slt b = true
  · rw [if_pos h]
    exact (min_eq_left (le_of_lt (BitVec.slt_iff_toInt_lt.mp h))).symm
  · rw [if_neg h]
    exact (min_eq_right (not_lt.mp fun hlt => h (BitVec.slt_iff_toInt_lt.mpr hlt))).symm

/-- The least word, from the greatest one, over all classes of a word per class, read signed, is the least of the words read signed. -/
theorem toInt_fold_minsi (f : Fin 1000 → BitVec 32) (z : BitVec 32) :
    ((Finset.univ : Finset (Fin 1000)).fold IntOp.minsi z f).toInt
      = (Finset.univ : Finset (Fin 1000)).fold min z.toInt (fun j => (f j).toInt) :=
  (Finset.fold_hom (op := IntOp.minsi) (op' := min) (m := BitVec.toInt) (b := z) toInt_minsi).symm

/-- The least class number among those whose score equals the maximum, the other classes giving 1000, is the first
    class at which the scores are greatest. -/
theorem fold_min_eq_first (x : Scores) :
    (Finset.univ : Finset (Fin 1000)).fold IntOp.minsi 2147483647#32
        (fun j => if x j = peak x then BitVec.ofNat 32 j.val else 1000#32)
      = BitVec.ofNat 32 (first x).val := by
  apply BitVec.eq_of_toInt_eq
  rw [toInt_fold_minsi, toInt_class _ (first x).isLt.le]
  apply le_antisymm
  · refine (Finset.fold_min_le _).mpr (Or.inr ⟨first x, Finset.mem_univ _, ?_⟩)
    rw [if_pos (show x (first x) = peak x from rfl), toInt_class _ (first x).isLt.le]
  · refine (Finset.le_fold_min _).mpr ⟨?_, fun j _ => ?_⟩
    · have : (2147483647#32).toInt = 2147483647 := by decide
      have := (first x).isLt
      omega
    · by_cases hj : x j = peak x
      · rw [if_pos hj, toInt_class _ j.isLt.le]
        have : first x ≤ j := (first_isFirst x).2 j hj
        exact_mod_cast this
      · rw [if_neg hj]
        have : (1000#32).toInt = 1000 := by decide
        have := (first x).isLt
        omega

/-- An entry of a sweep: a score and the word of its class. -/
abbrev Entry := EReal × BitVec 32

/-- Entry `a` is at least as good as entry `b`: a greater score, or the same score and a class not later. -/
def Better (a b : Entry) : Prop := b.1 < a.1 ∨ (a.1 = b.1 ∧ a.2.toInt ≤ b.2.toInt)

/-- An entry is as good as itself. -/
theorem Better.refl (a : Entry) : Better a a := Or.inr ⟨rfl, le_rfl⟩

/-- Being as good as another carries over. -/
theorem Better.trans {a b c : Entry} (h : Better a b) (h' : Better b c) : Better a c := by
  rcases h with h | ⟨h, hi⟩ <;> rcases h' with h' | ⟨h', hi'⟩
  · exact Or.inl (h'.trans h)
  · exact Or.inl (h' ▸ h)
  · exact Or.inl (h.symm ▸ h')
  · exact Or.inr ⟨h.trans h', hi.trans hi'⟩

/-- A sweep whose step keeps one of two entries, the one at least as good as the other, ends at one of the entries it saw, at
    least as good as each of them. -/
theorem foldl_best (step : Entry → Entry → Entry)
    (hstep : ∀ a b, (step a b = a ∧ Better a b) ∨ (step a b = b ∧ Better b a)) :
    ∀ (l : List Entry) (z : Entry), (l.foldl step z = z ∨ l.foldl step z ∈ l)
      ∧ Better (l.foldl step z) z ∧ ∀ e ∈ l, Better (l.foldl step z) e
  | [], z => ⟨Or.inl rfl, Better.refl z, fun _ h => absurd h List.not_mem_nil⟩
  | b :: l, z => by
    obtain ⟨hm, hz, hl⟩ := foldl_best step hstep l (step z b)
    rw [List.foldl_cons]
    rcases hstep z b with ⟨e, hb⟩ | ⟨e, hb⟩
    · rw [e] at hm hz hl ⊢
      refine ⟨hm.imp_right (List.mem_cons_of_mem _), hz, fun a ha => ?_⟩
      rcases List.mem_cons.mp ha with rfl | ha
      · exact hz.trans hb
      · exact hl a ha
    · rw [e] at hm hz hl ⊢
      refine ⟨Or.inr ?_, hz.trans hb, fun a ha => ?_⟩
      · rcases hm with hm | hm
        · rw [hm]; exact List.mem_cons_self
        · exact List.mem_cons_of_mem _ hm
      · rcases List.mem_cons.mp ha with rfl | ha
        · exact hz
        · exact hl a ha

/-- A sweep from the bottom score at class 0 over the entries of all classes, in any order, ends at the first class at
    which the scores are greatest. -/
theorem foldl_eq_first (step : Entry → Entry → Entry)
    (hstep : ∀ a b, (step a b = a ∧ Better a b) ∨ (step a b = b ∧ Better b a))
    (x : Scores) (l : List Entry) (hl : ∀ e, e ∈ l ↔ ∃ k : Fin 1000, e = (x k, BitVec.ofNat 32 k.val)) :
    (l.foldl step (⊥, 0#32)).2 = BitVec.ofNat 32 (first x).val := by
  obtain ⟨hm, -, hb⟩ := foldl_best step hstep l (⊥, 0#32)
  have hf := hb _ ((hl _).mpr ⟨first x, rfl⟩)
  rcases hm with hm | hm
  · rw [hm] at hf ⊢
    rcases hf with hf | ⟨hf, -⟩
    · exact absurd hf (not_lt_bot)
    · have h0 : x 0 = x (first x) := le_antisymm ((first_isFirst x).1 0) ((show x (first x) = ⊥ from hf.symm) ▸ bot_le)
      have : first x ≤ 0 := (first_isFirst x).2 0 h0
      have : first x = 0 := Fin.le_zero_iff.mp this
      rw [this]; rfl
  · obtain ⟨k, hk⟩ := (hl _).mp hm
    rw [hk] at hf ⊢
    have hle := (first_isFirst x).1 k
    rcases hf with hf | ⟨hf, hi⟩
    · exact absurd hf (not_lt.mpr hle)
    · have h1 : first x ≤ k := (first_isFirst x).2 k hf
      have h2 : (k.val : Int) ≤ ((first x).val : Int) := by
        rw [← toInt_class k.val k.isLt.le, ← toInt_class (first x).val (first x).isLt.le]; exact hi
      have h3 : k = first x := le_antisymm (Fin.le_def.mpr (by exact_mod_cast h2)) h1
      rw [h3]

end Cert.Reject
-- ==== Proof.Rule.lean ====
module
public import proofs.«01_k».proof.Proof.FirstMax

/-! # The rule of one row

What is decided about one row of the posterior, given the scale and the mean of every class: the predicted class is the first at
which `posterior / scale` is greatest, and the row is rejected when that greatest score is below a threshold. The greatest
score is the same when each posterior is multiplied by the reciprocal of its scale, because a scale is above zero. -/

@[expose] public section
noncomputable section

namespace Cert.Reject
open Idealize.ShloMosaic

/-- The least scale. -/
abbrev leastScale : EReal := Ideal.ofBits .f32 0x2B8CBCCC#32
/-- The number of groups, ten, which divides every alpha. -/
abbrev groups : EReal := Ideal.ofBits .f32 0x41200000#32
/-- One. -/
abbrev unit : EReal := Ideal.ofBits .f32 0x3F800000#32
/-- The cost of a rejection. -/
abbrev cost : EReal := Ideal.ofBits .f32 0x3D4CCCCD#32

/-- The scale of a class, from the alpha of its group. -/
def scaleOf (a : EReal) : EReal := max (Ideal.div a groups) leastScale

/-- The scores of a row. -/
def scoresOf (p s : Scores) : Scores := fun j => Ideal.div (p j) (s j)

/-- The predicted class of a row, as a word. -/
def predOf (p s : Scores) : BitVec 32 := BitVec.ofNat 32 (first (scoresOf p s)).val

/-- The threshold of a row. -/
def thresholdOf (p s mu : Scores) : EReal := (∑ j, (Ideal.div unit (s j) - mu j) * p j) - cost

/-- Whether a row is rejected. -/
def Rejected (p s mu : Scores) : Prop := peak (scoresOf p s) < thresholdOf p s mu

/-- The least scale is above zero. -/
theorem leastScale_pos : 0 < leastScale := by
  simp [leastScale, Ideal.ofBits, Ideal.ieee, -EReal.coe_mul]

/-- The word of one is one. -/
theorem unit_eq : unit = 1 := by
  simp [unit, Ideal.ofBits, Ideal.ieee, -EReal.coe_mul]
  norm_num

/-- Every scale is above zero. -/
theorem scaleOf_pos (a : EReal) : 0 < scaleOf a := lt_max_of_lt_right leastScale_pos

/-- Dividing by a number above zero is multiplying by its reciprocal. -/
theorem div_eq_mul_recip (p : EReal) {s : EReal} (h : 0 < s) : Ideal.div p s = p * Ideal.div unit s := by
  unfold Ideal.div
  rw [if_neg h.ne', if_neg h.ne', unit_eq, one_mul]

end Cert.Reject
-- ==== Proof.Block.lean ====
module
public import proofs.«01_k».proof.Proof.Points
public import proofs.«01_k».proof.Proof.Rule
public import Idealize.ShloMosaic.Lib.Pipeline.ValueKit

/-! # One block, element by element

The tables and the block of results of one grid point, read at an element over the extended reals: the table entry of a
class is the scale, or the weight, of the class's group; the result of a column is the rule of `Rule` at that column. -/

@[expose] public section
noncomputable section

namespace Cert.Reject.Block
open Cert.KernelIdeal Cert.KernelIdeal.Gen Idealize.ShloMosaic Cert.Reject.Points

/-- The scores of the block: each posterior over the scale of its class. -/
theorem scores_apply (s : Vec Ideal S1000x1 .f32) (p : Vec Ideal S1000x2048 .f32) (j : Fin 1000) (q : Fin 2048) :
    k0_pay5 s p (ix2 j q) = Ideal.div (p (ix2 j q)) (s (ix2 j 0)) := by
  unfold k0_pay5 k0_pay4
  pointwise

/-- The maximum of a column is its greatest score. -/
theorem lane_max (s : Vec Ideal S1000x1 .f32) (p : Vec Ideal S1000x2048 .f32) (q : Fin 2048) :
    k0_pay6 s p (ix2 0 q) = peak (scoresOf (fun j => p (ix2 j q)) fun j => s (ix2 j 0)) := by
  unfold k0_pay6
  pointwise
  rw [show Ideal.ofBits .f32 0xFF800000#32 = ⊥ by simp [Ideal.ofBits, Ideal.ieee], ← fold_max_eq_peak]
  exact congrArg (fun f => Finset.fold max ⊥ f Finset.univ) (funext fun j => scores_apply s p j q)

/-- The prediction of a column is the predicted class of the rule. -/
theorem pred_apply (s : Vec Ideal S1000x1 .f32) (p : Vec Ideal S1000x2048 .f32) (q : Fin 2048) :
    k0_pay7 s p (ix2 0 q) = predOf (fun j => p (ix2 j q)) fun j => s (ix2 j 0) := by
  unfold k0_pay7
  pointwise
  rw [lane_max]
  exact (congrArg (fun f => Finset.fold IntOp.minsi 2147483647#32 f Finset.univ)
    (funext fun j => by rw [scores_apply]; rfl)).trans (fold_min_eq_first _)

open Classical in
/-- The rejection of a column is one when the rule rejects, with the weights read from the table, and zero otherwise. -/
theorem rej_apply (s w : Vec Ideal S1000x1 .f32) (p : Vec Ideal S1000x2048 .f32) (q : Fin 2048) :
    k0_pay8 s p w (ix2 0 q)
      = if peak (scoresOf (fun j => p (ix2 j q)) fun j => s (ix2 j 0)) < (∑ j : Fin 1000, w (ix2 j 0) * p (ix2 j q)) - cost
        then 1#32 else 0#32 := by
  have e (j : Fin 1000) : k0_pay4 p (ix2 j q) = p (ix2 j q) := by unfold k0_pay4; pointwise
  unfold k0_pay8
  pointwise
  simp only [lane_max, e]

/-- A selection by an equality of words. -/
theorem select_eq (w : BitVec 32) (k : BitVec 32) (a b : EReal) :
    Scalar.select (IntOp.cmpi .eq w k) a b = if w = k then a else b := by
  by_cases h : w = k
  · subst h
    simp [Scalar.select, IntOp.cmpi]
  · have hb : (w == k) = false := beq_eq_false_iff_ne.mpr h
    simp [Scalar.select, IntOp.cmpi, hb, h]

/-- The chain of selections over the groups gives a class the alpha of its group. -/
theorem alpha_apply (cls : Vec Ideal S1000x1 .i32) (al : Vec Ideal S10 .f32) (j : Fin 1000) (g : Fin 10)
    (hg : cls (ix2 j 0) = BitVec.ofNat 32 g.val) : alphaOf cls al (ix2 j 0) = al (ix1 g) := by
  unfold alphaOf k0_pay22 k0_pay16 k0_pay10 k0_pay11 k0_pay12 k0_pay13 k0_pay15 k0_pay17 k0_pay18 k0_pay19 k0_pay20 k0_pay21 k0_pay9
  pointwise
  simp only [select_eq, hg]
  fin_cases g <;> simp [entry_eq]

/-- The chain of selections over the groups gives a class the mean of its group. -/
theorem mu_apply (cls : Vec Ideal S1000x1 .i32) (mu : Vec Ideal S10 .f32) (j : Fin 1000) (g : Fin 10)
    (hg : cls (ix2 j 0) = BitVec.ofNat 32 g.val) : muOf cls mu (ix2 j 0) = mu (ix1 g) := by
  unfold muOf k0_pay23 k0_pay14 k0_pay10 k0_pay11 k0_pay12 k0_pay13 k0_pay15 k0_pay17 k0_pay18 k0_pay19 k0_pay20 k0_pay21 k0_pay9
  pointwise
  simp only [select_eq, hg]
  fin_cases g <;> simp [entry_eq]

/-- The table of scales holds the scale of each class's group. -/
theorem scales_apply (cls : Vec Ideal S1000x1 .i32) (al : Vec Ideal S10 .f32) (j : Fin 1000) (g : Fin 10)
    (hg : cls (ix2 j 0) = BitVec.ofNat 32 g.val) : scales cls al (ix2 j 0) = scaleOf (al (ix1 g)) := by
  unfold scales k0_pay2 k0_pay1 k0_pay24
  pointwise
  rw [alpha_apply cls al j g hg]
  rfl

/-- The table of weights holds the reciprocal of the scale less the mean of each class's group. -/
theorem weights_apply (cls : Vec Ideal S1000x1 .i32) (al mu : Vec Ideal S10 .f32) (j : Fin 1000) (g : Fin 10)
    (hg : cls (ix2 j 0) = BitVec.ofNat 32 g.val) :
    weights cls al mu (ix2 j 0) = Ideal.div unit (scaleOf (al (ix1 g))) - mu (ix1 g) := by
  unfold weights k0_pay3 k0_pay1 k0_pay24
  pointwise
  rw [alpha_apply cls al j g hg, mu_apply cls mu j g hg]
  rfl

end Cert.Reject.Block
-- ==== Proof.Arrays.lean ====
module
public import proofs.«01_k».proof.Proof.Block

/-! # What the two result arrays hold after the grid

The blocks the grid reads are the argument arrays read at an index; the tables are the same after every point; so each element of
the two arrays the kernel writes is the rule of `Rule` at its row. -/

@[expose] public section
noncomputable section

namespace Cert.Reject.Arrays
open Cert.KernelIdeal Cert.KernelIdeal.Gen Idealize.ShloMosaic Idealize.ShloMosaic.TcCoe Idealize.SL.Sem Cert.Reject.Points Cert.Reject.Block
open Idealize.ShloMosaic.Pipeline (Dat)

variable (m : (ℓ : Loc nD τ sig) → Buf (Elt Ideal) ℓ)

/-- The posterior. -/
abbrev post (c : Dev nD) : Vec Ideal S16384x1000 .f32 := m ((c : Thread nD τ).loc main_arg0)
/-- The class-to-group map. -/
abbrev groupsOf (c : Dev nD) : Vec Ideal S1000 .i32 := m ((c : Thread nD τ).loc main_arg1)
/-- The alphas of the groups. -/
abbrev alpha (c : Dev nD) : Vec Ideal S10 .f32 := m ((c : Thread nD τ).loc main_arg2)
/-- The means of the groups. -/
abbrev mean (c : Dev nD) : Vec Ideal S10 .f32 := m ((c : Thread nD τ).loc main_arg3)

/-- The index maps of the windows: the three small windows are whole arrays, the others move along the columns with the point. -/
theorem index_facts : ∀ t : Fin cfg0.N, win0_0.index t = ![0, 0] ∧ win0_1.index t = ![0] ∧ win0_2.index t = ![0]
    ∧ win0_3.index t = ![0, t.val] ∧ win0_4.index t = ![0, t.val] ∧ win0_5.index t = ![0, t.val] :=
  (by decide +kernel : ∀ t : Fin grid0.N, win0_0.index t = ![0, 0] ∧ win0_1.index t = ![0] ∧ win0_2.index t = ![0]
    ∧ win0_3.index t = ![0, t.val] ∧ win0_4.index t = ![0, t.val] ∧ win0_5.index t = ![0, t.val])

/-- The classes a point reads are the class-to-group map. -/
theorem classes_apply (c : Dev nD) (t : Fin cfg0.N) (j : Fin 1000) :
    (iblk m c 0 t : Vec Ideal S1000x1 .i32) (ix2 j 0) = groupsOf m c (ix1 j) := by
  have e : (iblk m c 0 t : Vec Ideal S1000x1 .i32) (ix2 j 0) = (V m c main_v1 : Vec Ideal S1000x1 .i32) (ix2 j 0) := by
    blk_ext [iblk, V, index_facts t]
  have v : (V m c main_v1 : Vec Ideal S1000x1 .i32) = shapeCast S1000x1 (groupsOf m c) shapeCasts_S1000_S1000x1 := by
    show StableHlo.after hostOps0 (fun b => m (c, b)) (Proc.devRef .tc main_v1) = _
    after_results
    rfl
  rw [e, v]
  pointwise

/-- The alphas a point reads are the argument's. -/
theorem alpha_block (c : Dev nD) (t : Fin cfg0.N) (g : Fin 10) :
    (iblk m c 1 t : Vec Ideal S10 .f32) (ix1 g) = alpha m c (ix1 g) := by
  blk_ext [iblk, V, index_facts t]

/-- The means a point reads are the argument's. -/
theorem mean_block (c : Dev nD) (t : Fin cfg0.N) (g : Fin 10) :
    (iblk m c 2 t : Vec Ideal S10 .f32) (ix1 g) = mean m c (ix1 g) := by
  blk_ext [iblk, V, index_facts t]

/-- Column `q` of the block of point `t` is row `2048 t + q` of the posterior. -/
theorem post_block (c : Dev nD) (t : Fin cfg0.N) (j : Fin 1000) (q : Fin 2048) (h : t.val * 2048 + q.val < 16384) :
    (iblk m c 3 t : Vec Ideal S1000x2048 .f32) (ix2 j q) = post m c (ix2 ⟨t.val * 2048 + q.val, h⟩ j) := by
  have e : (iblk m c 3 t : Vec Ideal S1000x2048 .f32) (ix2 j q)
      = (V m c main_v0 : Vec Ideal S1000x16384 .f32) (ix2 j ⟨t.val * 2048 + q.val, h⟩) := by
    blk_ext [iblk, V, index_facts t]
  have v : (V m c main_v0 : Vec Ideal S1000x16384 .f32)
      = transpose S1000x16384 [1, 0] (post m c) transposes_S16384x1000_S1000x16384_1_0 := by
    show StableHlo.after hostOps0 (fun b => m (c, b)) (Proc.devRef .tc main_v0) = _
    after_results
  rw [e, v]
  pointwise

/-- Two columns are equal when they agree at every class. -/
theorem ext_col {x y : Vec Ideal S1000x1 .i32} (h : ∀ j : Fin 1000, x (ix2 j 0) = y (ix2 j 0)) : x = y := by
  funext i
  have hi : i = ix2 (i 0 : Fin 1000) (0 : Fin 1) := by
    rw [eq_ix2 i]
    exact congrArg (ix2 (i 0 : Fin 1000)) (Subsingleton.elim (α := Fin 1) _ _)
  rw [hi]
  exact h _

/-- Two vectors over the groups are equal when they agree at every group. -/
theorem ext_row {x y : Vec Ideal S10 .f32} (h : ∀ g : Fin 10, x (ix1 g) = y (ix1 g)) : x = y := by
  funext i
  rw [eq_ix1 i]
  exact h _

/-- The block of classes is the same at every point. -/
theorem classes_const (c : Dev nD) (t t' : Fin cfg0.N) : (iblk m c 0 t : Vec Ideal S1000x1 .i32) = iblk m c 0 t' := by
  refine ext_col fun j => ?_
  rw [classes_apply m c t, classes_apply m c t']

/-- The block of alphas is the argument at every point. -/
theorem alpha_eq (c : Dev nD) (t : Fin cfg0.N) : (iblk m c 1 t : Vec Ideal S10 .f32) = alpha m c := by
  exact ext_row fun g => alpha_block m c t g

/-- The block of means is the argument at every point. -/
theorem mean_eq (c : Dev nD) (t : Fin cfg0.N) : (iblk m c 2 t : Vec Ideal S10 .f32) = mean m c := by
  exact ext_row fun g => mean_block m c t g

/-- The first point of the grid. -/
abbrev start : Fin cfg0.N := ⟨0, by rw [show cfg0.N = 8 from N_0]; decide⟩

/-- The table of scales. -/
abbrev scaleTable (c : Dev nD) : FVec Ideal S1000x1 .f32 := scales (iblk m c 0 start : Vec Ideal S1000x1 .i32) (alpha m c)
/-- The table of weights. -/
abbrev weightTable (c : Dev nD) : FVec Ideal S1000x1 .f32 := weights (iblk m c 0 start : Vec Ideal S1000x1 .i32) (alpha m c) (mean m c)

/-- After every point the scratches hold the two tables. -/
theorem tables (c : Dev nD) : ∀ (n : ℕ) (hn : n < cfg0.N), (outsAt0 m c n hn).2.2 = (scaleTable m c, weightTable m c)
  | 0, hn => by
    rw [outsAt0_A m c ⟨0, hn⟩ rfl]
    dsimp only
    rw [sout0_A_0_eq, sout0_A_1_eq, alpha_eq, mean_eq]
  | n + 1, hn => by
    have hN : cfg0.N = 8 := N_0
    have hB : ¬(⟨n + 1, hn⟩ : Fin cfg0.N).val % 8 = 0 := by dsimp only; omega
    rw [outsAt0_B m c ⟨n + 1, hn⟩ hB]
    exact tables c n (Nat.lt_of_succ_lt hn)

/-- What every point leaves in the two blocks of results: the block of predictions and the block of rejections, from its
    block of the posterior and the two tables. -/
theorem outs (c : Dev nD) (t : Fin cfg0.N) :
    (outsAt0 m c t.val t.isLt).1 = k0_pay7 (scaleTable m c) (iblk m c 3 t : Vec Ideal S1000x2048 .f32)
      ∧ (outsAt0 m c t.val t.isLt).2.1 = k0_pay8 (scaleTable m c) (iblk m c 3 t : Vec Ideal S1000x2048 .f32) (weightTable m c) := by
  by_cases h0 : t.val % 8 = 0
  · have hN : cfg0.N = 8 := N_0
    rw [outsAt0_A m c t h0]
    dsimp only
    rw [out0_A_4_eq, out0_A_5_eq, alpha_eq, mean_eq, classes_const m c t start]
    exact ⟨rfl, rfl⟩
  · rw [outsAt0_B m c t h0]
    dsimp only
    rw [out0_B_4_eq, out0_B_5_eq, tables m c]
    exact ⟨rfl, rfl⟩

/-- The scale of a class, in the table. -/
abbrev scaleAt (c : Dev nD) (j : Fin 1000) : EReal := scaleTable m c (ix2 j 0)
/-- The weight of a class, in the table. -/
abbrev weightAt (c : Dev nD) (j : Fin 1000) : EReal := weightTable m c (ix2 j 0)

/-- A row of the posterior. -/
abbrev row (c : Dev nD) (n : Fin 16384) : Scores := fun j => post m c (ix2 n j)

open Classical in
/-- What the array of rejections holds for a row. -/
noncomputable def flagAt (c : Dev nD) (n : Fin 16384) : BitVec 32 :=
  if peak (scoresOf (row m c n) (scaleAt m c)) < (∑ j : Fin 1000, weightAt m c j * row m c n j) - cost then 1#32 else 0#32

/-- What the array of predictions holds for a row. -/
noncomputable def classAt (c : Dev nD) (n : Fin 16384) : BitVec 32 := predOf (row m c n) (scaleAt m c)

/-- What a block of predictions holds at a column, when its block of the posterior holds row `n` there. -/
theorem class_block (c : Dev nD) (t : Fin cfg0.N) (q : Fin 2048) (h : t.val * 2048 + q.val < 16384) :
    k0_pay7 (scaleTable m c) (iblk m c 3 t : Vec Ideal S1000x2048 .f32) (ix2 0 q) = classAt m c ⟨t.val * 2048 + q.val, h⟩ := by
  have e : (fun j : Fin 1000 => (iblk m c 3 t : Vec Ideal S1000x2048 .f32) (ix2 j q)) = row m c ⟨t.val * 2048 + q.val, h⟩ :=
    funext fun j => post_block m c t j q h
  rw [pred_apply, e]
  rfl

/-- The same for a block of rejections. -/
theorem flag_block (c : Dev nD) (t : Fin cfg0.N) (q : Fin 2048) (h : t.val * 2048 + q.val < 16384) :
    k0_pay8 (scaleTable m c) (iblk m c 3 t : Vec Ideal S1000x2048 .f32) (weightTable m c) (ix2 0 q)
      = flagAt m c ⟨t.val * 2048 + q.val, h⟩ := by
  have e : (fun j : Fin 1000 => (iblk m c 3 t : Vec Ideal S1000x2048 .f32) (ix2 j q)) = row m c ⟨t.val * 2048 + q.val, h⟩ :=
    funext fun j => post_block m c t j q h
  have e' : ∀ j : Fin 1000, (iblk m c 3 t : Vec Ideal S1000x2048 .f32) (ix2 j q) = row m c ⟨t.val * 2048 + q.val, h⟩ j :=
    fun j => post_block m c t j q h
  rw [rej_apply, e]
  simp only [e']
  rfl

/-- An index of a one-row block is given by its column. -/
theorem eq_column (y : S1x2048.Idx) : y = ix2 (0 : Fin 1) (y 1 : Fin 2048) := by
  rw [eq_ix2 y]
  exact congrArg (fun k : Fin 1 => ix2 k (y 1 : Fin 2048)) (Subsingleton.elim (α := Fin 1) _ _)

/-- The array of predictions, after the grid. -/
theorem classes_out (c : Dev nD) :
    ((dats m 0 c).arrAt 4 cfg0.N : Vec Ideal S1x16384 .i32) = fun i => classAt m c (i 1) := by
  refine (dats m 0 c).arrAt_eq_of_covers 4 _ (by decide +kernel) fun t hf y => ?_
  blk_simp
  rw [after0_4, (outs m c t).1]
  have hq : (y 1).val < 2048 := (y 1).isLt
  have hN : t.val < 8 := lt_of_lt_of_eq t.isLt N_0
  have h : t.val * 2048 + (⟨(y 1).val, hq⟩ : Fin 2048).val < 16384 := by dsimp only; omega
  refine ((congrArg _ (eq_column y)).trans (class_block m c t ⟨(y 1).val, hq⟩ h)).trans (congrArg (classAt m c) (Fin.ext ?_))
  blk_simp [index_facts t]

/-- The array of rejections, after the grid. -/
theorem flags_out (c : Dev nD) :
    ((dats m 0 c).arrAt 5 cfg0.N : Vec Ideal S1x16384 .i32) = fun i => flagAt m c (i 1) := by
  refine (dats m 0 c).arrAt_eq_of_covers 5 _ (by decide +kernel) fun t hf y => ?_
  blk_simp
  rw [after0_5, (outs m c t).2]
  have hq : (y 1).val < 2048 := (y 1).isLt
  have hN : t.val < 8 := lt_of_lt_of_eq t.isLt N_0
  have h : t.val * 2048 + (⟨(y 1).val, hq⟩ : Fin 2048).val < 16384 := by dsimp only; omega
  refine ((congrArg _ (eq_column y)).trans (flag_block m c t ⟨(y 1).val, hq⟩ h)).trans (congrArg (flagAt m c) (Fin.ext ?_))
  blk_simp [index_facts t]

end Cert.Reject.Arrays
-- ==== Proof.KernelRun.lean ====
module
public import proofs.«01_k».proof.Proof.Arrays

/-! # The run of the kernel

After the grid the host flattens the two arrays, and turns the second into truth values. This file reads the two results of the run. -/

@[expose] public section
noncomputable section

namespace Cert.Reject.KernelRun
open Cert.KernelIdeal Cert.KernelIdeal.Gen Idealize.ShloMosaic Idealize.ShloMosaic.TcCoe Idealize.SL.Sem Cert.Reject.Arrays
open Idealize.ShloMosaic.Pipeline (Dat)

variable (m : (ℓ : Loc nD τ sig) → Buf (Elt Ideal) ℓ)

/-- The first result of a run: every row's class. -/
def predicted (c : Dev nD) : Vec Ideal S16384 .i32 := fun i => classAt m c (i 0)

/-- The second result of a run: whether a row's flag is not zero. -/
def rejected (c : Dev nD) : Vec Ideal S16384 .i1 := fun i => IntOp.cmpi .ne (flagAt m c (i 0)) 0#32

/-- The host's operations after the grid, at the first result: the flattened array of predictions. -/
theorem host_predicted (W : Valuation τ sig (Elt Ideal)) :
    (StableHlo.after hostOps1 W (Proc.devRef .tc main_v3) : Vec Ideal S16384 .i32)
      = shapeCast S16384 (W (Proc.devRef .tc main_v2_0) : Vec Ideal S1x16384 .i32) shapeCasts_S1x16384_S16384 := by
  after_results
  rfl

/-- The same at the second result: where the flattened array of rejections is not zero. -/
theorem host_rejected (W : Valuation τ sig (Elt Ideal)) :
    (StableHlo.after hostOps1 W (Proc.devRef .tc main_v7) : Vec Ideal S16384 .i1)
      = cmpi .ne (shapeCast S16384 (W (Proc.devRef .tc main_v2_1) : Vec Ideal S1x16384 .i32) shapeCasts_S1x16384_S16384)
        (broadcastInDim S16384 ![] bcast_S_S16384 (constantI S_ 32 0#32)) := by
  after_results
  rfl

/-- The grid's array of predictions is what the host reads. -/
theorem read_classes (c : Dev nD) :
    (Pipeline.withArrays (cfgs 0).spec c (V0 m c) (fun w => (dats m 0 c).arrAt w (cfgs 0).N) (Proc.devRef .tc main_v2_0)
      : Vec Ideal S1x16384 .i32) = fun i => classAt m c (i 1) :=
  (Pipeline.withArrays_arr (cfgs 0).spec (by decide) c (V0 m c) (fun w => (dats m 0 c).arrAt w (cfgs 0).N) 4).trans
    (classes_out m c)

/-- The grid's array of rejections is what the host reads. -/
theorem read_flags (c : Dev nD) :
    (Pipeline.withArrays (cfgs 0).spec c (V0 m c) (fun w => (dats m 0 c).arrAt w (cfgs 0).N) (Proc.devRef .tc main_v2_1)
      : Vec Ideal S1x16384 .i32) = fun i => flagAt m c (i 1) :=
  (Pipeline.withArrays_arr (cfgs 0).spec (by decide) c (V0 m c) (fun w => (dats m 0 c).arrAt w (cfgs 0).N) 5).trans
    (flags_out m c)

/-- The host's flattening of the predictions. -/
theorem tail_predicted (c : Dev nD) :
    (Pipeline.afterTail₀ cfgs (dats m) 0 (V0 m) [hostOps1] c main_v3 : Vec Ideal S16384 .i32) = predicted m c := by
  show StableHlo.after hostOps1 _ (Proc.devRef .tc main_v3) = _
  rw [host_predicted, read_classes]
  funext i
  rw [eq_ix1 i]
  pointwise
  rfl

/-- The host's truth values of the rejections. -/
theorem tail_rejected (c : Dev nD) :
    (Pipeline.afterTail₀ cfgs (dats m) 0 (V0 m) [hostOps1] c main_v7 : Vec Ideal S16384 .i1) = rejected m c := by
  show StableHlo.after hostOps1 _ (Proc.devRef .tc main_v7) = _
  rw [host_rejected, read_flags]
  funext i
  rw [eq_ix1 i]
  pointwise
  rfl

/-- Every run of the kernel ends with these two results, the arguments unchanged. -/
theorem ends (ρ : Dev nD → PrngReg) : θ_run defs (onTc (τ := τ) (main (F := Ideal))) ⟨m, fun _ => 0, ρ⟩ (fun r => ∀ c : Dev nD,
      r.2.mem ((c.tc : Thread nD τ).loc main_v3) = predicted m c
      ∧ r.2.mem ((c.tc : Thread nD τ).loc main_v7) = rejected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v3 (Pipeline.mem_restRefs_of main_v3 (by decide) (by decide))).trans (tail_predicted m c),
      ((h.1 c).2 main_v7 (Pipeline.mem_restRefs_of main_v7 (by decide) (by decide))).trans (tail_rejected m c), h.2 c⟩)
    (θ_run_and (run_main m ρ) (unchanged m ρ))

end Cert.Reject.KernelRun
-- ==== Proof.RefRun.lean ====
/- The reference's run, read back. @main of the reference is a straight line of host operations (the calls of
   `take`, `clip` and `argmax` written out in place): it is listed here, and the run of the list leaves in each
   result buffer the composed function of the four arguments that this file also defines, stage by stage. -/
module

public import proofs.«01_k».proof.Proof.Gen.ReferenceIdeal
public import Idealize.ShloMosaic.Lib.StableHlo.Run

@[expose] public section

noncomputable section

namespace Cert.Reject.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of the arguments -/

/-- The class→group table as the column of start indices `jnp.take` builds: a negative group counts from the end. -/
def startCol (cls : IVec S1000 32) : IVec S1000x1 32 :=
  broadcastInDim S1000x1 ![0] bcast_S1000_S1000x1_0
    (select (cmpi .slt cls (broadcastInDim S1000 ![] bcast_S_S1000 (constantI S_ 32 0#32)))
      (addi cls (broadcastInDim S1000 ![] bcast_S_S1000 (constantI S_ 32 10#32))) cls)

/-- Which of those start indices lie in 0 … 9. -/
def inTable (cls : IVec S1000 32) : IVec S1000 1 :=
  Host.reduce IntOp.andi
    (andi (cmpi .sge (startCol cls) (broadcastInDim S1000x1 ![] bcast_S_S1000x1 (constantI S_ 32 0#32)))
      (cmpi .sle (startCol cls)
        (broadcastInDim S1000x1 ![0, 1] bcast_S1x1_S1000x1_0_1 (broadcastInDim S1x1 ![1] bcast_S1_S1x1_1 (constantI S1 32 9#32)))))
    (constantI S_ 1 1#1) reducesTo_S1000x1_S1000_d1 h_S_

/-- `jnp.take(table, cls)`: the table at each class's group, NaN at an index outside the table. -/
def taken (table : FVec F S10 .f32) (cls : IVec S1000 32) : FVec F S1000 .f32 :=
  select (inTable cls) (Host.gather gather_S10_S1000x1_S1000_n_0_n_n_0_1_1 table (startCol cls))
    (broadcastInDim S1000 ![] bcast_S_S1000 (constant S_ .f32 0x7FC00000#32))

/-- The per-class scale: a tenth of the group's alpha, clipped below at epsilon. -/
def scale (cls : IVec S1000 32) (alpha : FVec F S10 .f32) : FVec F S1000 .f32 :=
  maximumf (broadcastInDim S1000 ![] bcast_S_S1000 (id (constant S_ .f32 0x2B8CBCCC#32)))
    (taken (Host.divf alpha (broadcastInDim S10 ![] bcast_S_S10 (constant S_ .f32 0x41200000#32))) cls)

/-- A per-class row laid under every row of the batch. -/
def spread (v : FVec F S1000 .f32) : FVec F S16384x1000 .f32 :=
  broadcastInDim S16384x1000 ![0, 1] bcast_S1x1000_S16384x1000_0_1 (broadcastInDim S1x1000 ![1] bcast_S1000_S1x1000_1 v)

/-- The reciprocal scale. -/
def recip (cls : IVec S1000 32) (alpha : FVec F S10 .f32) : FVec F S1000 .f32 :=
  Host.divf (broadcastInDim S1000 ![] bcast_S_S1000 (constant S_ .f32 0x3F800000#32)) (scale cls alpha)

/-- Result 0: the arg-max over the classes of posterior over scale. -/
def pred (p : FVec F S16384x1000 .f32) (cls : IVec S1000 32) (alpha : FVec F S10 .f32) : IVec S16384 32 :=
  fun j => (Host.argReduce reducer_argmax_f32_i32 (Host.divf p (spread (scale cls alpha))) (iotaInDim S16384x1000 32 1)
    (constant S_ .f32 0xFF800000#32) (constantI S_ 32 0#32) reducesTo_S16384x1000_S16384_d1 h_S_ j).2

/-- The greatest weighted posterior of each row. -/
def top (p : FVec F S16384x1000 .f32) (cls : IVec S1000 32) (alpha : FVec F S10 .f32) : FVec F S16384 .f32 :=
  Host.reduce FloatOps.maximumf (mulf p (spread (recip cls alpha))) (constant S_ .f32 0xFF800000#32)
    reducesTo_S16384x1000_S16384_d1 h_S_

/-- The rejection threshold of each row. -/
def threshold (p : FVec F S16384x1000 .f32) (cls : IVec S1000 32) (alpha mu : FVec F S10 .f32) : FVec F S16384 .f32 :=
  subf (Host.reduceAdd (mulf (spread (subf (recip cls alpha) (taken mu cls))) p) (constant S_ .f32 0x00000000#32)
      reducesTo_S16384x1000_S16384_d1 h_S_)
    (broadcastInDim S16384 ![] bcast_S_S16384 (constant S_ .f32 0x3D4CCCCD#32))

/-- Result 1: the rows whose greatest weighted posterior lies under the threshold. -/
def rej (p : FVec F S16384x1000 .f32) (cls : IVec S1000 32) (alpha mu : FVec F S10 .f32) : IVec S16384 1 :=
  cmpf .olt (top p cls alpha) (threshold p cls alpha mu)

/-! ## The line of operations and its run -/

/-- The operations of @main in order, those of a called function in the place of its call. -/
abbrev line : List (HloOp τ sig (Elt F)) :=
  [ nullary main_cst (constant S_ .f32 0x41200000#32),
    unary main_cst main_v0 (broadcastInDim S10 ![] bcast_S_S10 : (⟨S_, .f32⟩ : BufTy).Contents (Elt F) → (⟨S10, .f32⟩ : BufTy).Contents (Elt F)),
    binary main_arg2 main_v0 main_v1 (Host.divf : (⟨S10, .f32⟩ : BufTy).Contents (Elt F) → (⟨S10, .f32⟩ : BufTy).Contents (Elt F) → (⟨S10, .f32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1000, .i32⟩) main_call0_v0) (broadcastInDim S1000 ![] bcast_S_S1000),
    TRef.binary (TRef.of (T := ⟨S1000, .i32⟩) main_arg1) (TRef.of (T := ⟨S1000, .i32⟩) main_call0_v0) (TRef.of (T := ⟨S1000, .i1⟩) main_call0_v1) (cmpi .slt),
    TRef.nullary (TRef.of (T := ⟨S_, .i32⟩) main_call0_c_0) (constantI S_ 32 10#32),
    TRef.unary (TRef.of (T := ⟨S_, .i32⟩) main_call0_c_0) (TRef.of (T := ⟨S1000, .i32⟩) main_call0_v2) (broadcastInDim S1000 ![] bcast_S_S1000),
    TRef.binary (TRef.of (T := ⟨S1000, .i32⟩) main_arg1) (TRef.of (T := ⟨S1000, .i32⟩) main_call0_v2) (TRef.of (T := ⟨S1000, .i32⟩) main_call0_v3) addi,
    TRef.ternary (TRef.of (T := ⟨S1000, .i1⟩) main_call0_v1) (TRef.of (T := ⟨S1000, .i32⟩) main_call0_v3) (TRef.of (T := ⟨S1000, .i32⟩) main_arg1) (TRef.of (T := ⟨S1000, .i32⟩) main_call0_v4) select,
    TRef.unary (TRef.of (T := ⟨S1000, .i32⟩) main_call0_v4) (TRef.of (T := ⟨S1000x1, .i32⟩) main_call0_v5) (broadcastInDim S1000x1 ![0] bcast_S1000_S1000x1_0),
    TRef.nullary (TRef.of (T := ⟨S1, .i32⟩) main_call0_c_1) (constantI S1 32 9#32),
    TRef.nullary (TRef.of (T := ⟨S_, .i32⟩) main_call0_c_2) (constantI S_ 32 0#32),
    TRef.unary (TRef.of (T := ⟨S_, .i32⟩) main_call0_c_2) (TRef.of (T := ⟨S1000x1, .i32⟩) main_call0_v6) (broadcastInDim S1000x1 ![] bcast_S_S1000x1),
    TRef.binary (TRef.of (T := ⟨S1000x1, .i32⟩) main_call0_v5) (TRef.of (T := ⟨S1000x1, .i32⟩) main_call0_v6) (TRef.of (T := ⟨S1000x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S1000x1, .i32⟩) main_call0_v9) (broadcastInDim S1000x1 ![0, 1] bcast_S1x1_S1000x1_0_1),
    TRef.binary (TRef.of (T := ⟨S1000x1, .i32⟩) main_call0_v5) (TRef.of (T := ⟨S1000x1, .i32⟩) main_call0_v9) (TRef.of (T := ⟨S1000x1, .i1⟩) main_call0_v10) (cmpi .sle),
    TRef.binary (TRef.of (T := ⟨S1000x1, .i1⟩) main_call0_v7) (TRef.of (T := ⟨S1000x1, .i1⟩) main_call0_v10) (TRef.of (T := ⟨S1000x1, .i1⟩) main_call0_v11) andi,
    TRef.nullary (TRef.of (T := ⟨S_, .i1⟩) main_call0_c_3) (constantI S_ 1 1#1),
    TRef.binary (TRef.of (T := ⟨S1000x1, .i1⟩) main_call0_v11) (TRef.of (T := ⟨S_, .i1⟩) main_call0_c_3) (TRef.of (T := ⟨S1000, .i1⟩) main_call0_v12) (fun x v => Host.reduce IntOp.andi x v reducesTo_S1000x1_S1000_d1 h_S_),
    TRef.binary (TRef.of (T := ⟨S10, .f32⟩) main_v1) (TRef.of (T := ⟨S1000x1, .i32⟩) main_call0_v5) (TRef.of (T := ⟨S1000, .f32⟩) main_call0_v13) (fun x i => Host.gather gather_S10_S1000x1_S1000_n_0_n_n_0_1_1 x i),
    TRef.nullary (TRef.of (T := ⟨S_, .f32⟩) main_call0_cst) (constant S_ .f32 0x7FC00000#32),
    TRef.unary (TRef.of (T := ⟨S_, .f32⟩) main_call0_cst) (TRef.of (T := ⟨S1000, .f32⟩) main_call0_v14) (broadcastInDim S1000 ![] bcast_S_S1000),
    TRef.ternary (TRef.of (T := ⟨S1000, .i1⟩) main_call0_v12) (TRef.of (T := ⟨S1000, .f32⟩) main_call0_v13) (TRef.of (T := ⟨S1000, .f32⟩) main_call0_v14) (TRef.of (T := ⟨S1000, .f32⟩) main_v2) select,
    nullary main_cst_0 (constant S_ .f32 0x2B8CBCCC#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S1000, .f32⟩) main_call1_v1) (broadcastInDim S1000 ![] bcast_S_S1000),
    TRef.binary (TRef.of (T := ⟨S1000, .f32⟩) main_call1_v1) (TRef.of (T := ⟨S1000, .f32⟩) main_v2) (TRef.of (T := ⟨S1000, .f32⟩) main_v3) maximumf,
    TRef.nullary (TRef.of (T := ⟨S_, .i32⟩) main_call2_c) (constantI S_ 32 0#32),
    TRef.unary (TRef.of (T := ⟨S_, .i32⟩) main_call2_c) (TRef.of (T := ⟨S1000, .i32⟩) main_call2_v0) (broadcastInDim S1000 ![] bcast_S_S1000),
    TRef.binary (TRef.of (T := ⟨S1000, .i32⟩) main_arg1) (TRef.of (T := ⟨S1000, .i32⟩) main_call2_v0) (TRef.of (T := ⟨S1000, .i1⟩) main_call2_v1) (cmpi .slt),
    TRef.nullary (TRef.of (T := ⟨S_, .i32⟩) main_call2_c_0) (constantI S_ 32 10#32),
    TRef.unary (TRef.of (T := ⟨S_, .i32⟩) main_call2_c_0) (TRef.of (T := ⟨S1000, .i32⟩) main_call2_v2) (broadcastInDim S1000 ![] bcast_S_S1000),
    TRef.binary (TRef.of (T := ⟨S1000, .i32⟩) main_arg1) (TRef.of (T := ⟨S1000, .i32⟩) main_call2_v2) (TRef.of (T := ⟨S1000, .i32⟩) main_call2_v3) addi,
    TRef.ternary (TRef.of (T := ⟨S1000, .i1⟩) main_call2_v1) (TRef.of (T := ⟨S1000, .i32⟩) main_call2_v3) (TRef.of (T := ⟨S1000, .i32⟩) main_arg1) (TRef.of (T := ⟨S1000, .i32⟩) main_call2_v4) select,
    TRef.unary (TRef.of (T := ⟨S1000, .i32⟩) main_call2_v4) (TRef.of (T := ⟨S1000x1, .i32⟩) main_call2_v5) (broadcastInDim S1000x1 ![0] bcast_S1000_S1000x1_0),
    TRef.nullary (TRef.of (T := ⟨S1, .i32⟩) main_call2_c_1) (constantI S1 32 9#32),
    TRef.nullary (TRef.of (T := ⟨S_, .i32⟩) main_call2_c_2) (constantI S_ 32 0#32),
    TRef.unary (TRef.of (T := ⟨S_, .i32⟩) main_call2_c_2) (TRef.of (T := ⟨S1000x1, .i32⟩) main_call2_v6) (broadcastInDim S1000x1 ![] bcast_S_S1000x1),
    TRef.binary (TRef.of (T := ⟨S1000x1, .i32⟩) main_call2_v5) (TRef.of (T := ⟨S1000x1, .i32⟩) main_call2_v6) (TRef.of (T := ⟨S1000x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S1000x1, .i32⟩) main_call2_v9) (broadcastInDim S1000x1 ![0, 1] bcast_S1x1_S1000x1_0_1),
    TRef.binary (TRef.of (T := ⟨S1000x1, .i32⟩) main_call2_v5) (TRef.of (T := ⟨S1000x1, .i32⟩) main_call2_v9) (TRef.of (T := ⟨S1000x1, .i1⟩) main_call2_v10) (cmpi .sle),
    TRef.binary (TRef.of (T := ⟨S1000x1, .i1⟩) main_call2_v7) (TRef.of (T := ⟨S1000x1, .i1⟩) main_call2_v10) (TRef.of (T := ⟨S1000x1, .i1⟩) main_call2_v11) andi,
    TRef.nullary (TRef.of (T := ⟨S_, .i1⟩) main_call2_c_3) (constantI S_ 1 1#1),
    TRef.binary (TRef.of (T := ⟨S1000x1, .i1⟩) main_call2_v11) (TRef.of (T := ⟨S_, .i1⟩) main_call2_c_3) (TRef.of (T := ⟨S1000, .i1⟩) main_call2_v12) (fun x v => Host.reduce IntOp.andi x v reducesTo_S1000x1_S1000_d1 h_S_),
    TRef.binary (TRef.of (T := ⟨S10, .f32⟩) main_arg3) (TRef.of (T := ⟨S1000x1, .i32⟩) main_call2_v5) (TRef.of (T := ⟨S1000, .f32⟩) main_call2_v13) (fun x i => Host.gather gather_S10_S1000x1_S1000_n_0_n_n_0_1_1 x i),
    TRef.nullary (TRef.of (T := ⟨S_, .f32⟩) main_call2_cst) (constant S_ .f32 0x7FC00000#32),
    TRef.unary (TRef.of (T := ⟨S_, .f32⟩) main_call2_cst) (TRef.of (T := ⟨S1000, .f32⟩) main_call2_v14) (broadcastInDim S1000 ![] bcast_S_S1000),
    TRef.ternary (TRef.of (T := ⟨S1000, .i1⟩) main_call2_v12) (TRef.of (T := ⟨S1000, .f32⟩) main_call2_v13) (TRef.of (T := ⟨S1000, .f32⟩) main_call2_v14) (TRef.of (T := ⟨S1000, .f32⟩) main_v4) select,
    unary main_v3 main_v5 (broadcastInDim S1x1000 ![1] bcast_S1000_S1x1000_1 : (⟨S1000, .f32⟩ : BufTy).Contents (Elt F) → (⟨S1x1000, .f32⟩ : BufTy).Contents (Elt F)),
    unary main_v5 main_v6 (broadcastInDim S16384x1000 ![0, 1] bcast_S1x1000_S16384x1000_0_1 : (⟨S1x1000, .f32⟩ : BufTy).Contents (Elt F) → (⟨S16384x1000, .f32⟩ : BufTy).Contents (Elt F)),
    binary main_arg0 main_v6 main_v7 (Host.divf : (⟨S16384x1000, .f32⟩ : BufTy).Contents (Elt F) → (⟨S16384x1000, .f32⟩ : BufTy).Contents (Elt F) → (⟨S16384x1000, .f32⟩ : BufTy).Contents (Elt F)),
    TRef.nullary (TRef.of (T := ⟨S16384x1000, .i32⟩) main_call3_v0) (iotaInDim S16384x1000 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S16384x1000, .f32⟩) main_v7) (TRef.of (T := ⟨S16384x1000, .i32⟩) main_call3_v0) (TRef.of (T := ⟨S_, .f32⟩) main_call3_cst) (TRef.of (T := ⟨S_, .i32⟩) main_call3_c) (TRef.of (T := ⟨S16384, .f32⟩) main_call3_v1_0) (fun x y u v j => (Host.argReduce reducer_argmax_f32_i32 x y u v reducesTo_S16384x1000_S16384_d1 h_S_ j).1),
    TRef.quaternary (TRef.of (T := ⟨S16384x1000, .f32⟩) main_v7) (TRef.of (T := ⟨S16384x1000, .i32⟩) main_call3_v0) (TRef.of (T := ⟨S_, .f32⟩) main_call3_cst) (TRef.of (T := ⟨S_, .i32⟩) main_call3_c) (TRef.of (T := ⟨S16384, .i32⟩) main_v8) (fun x y u v j => (Host.argReduce reducer_argmax_f32_i32 x y u v reducesTo_S16384x1000_S16384_d1 h_S_ j).2),
    nullary main_cst_1 (constant S_ .f32 0x3F800000#32),
    unary main_cst_1 main_v9 (broadcastInDim S1000 ![] bcast_S_S1000 : (⟨S_, .f32⟩ : BufTy).Contents (Elt F) → (⟨S1000, .f32⟩ : BufTy).Contents (Elt F)),
    binary main_v9 main_v3 main_v10 (Host.divf : (⟨S1000, .f32⟩ : BufTy).Contents (Elt F) → (⟨S1000, .f32⟩ : BufTy).Contents (Elt F) → (⟨S1000, .f32⟩ : BufTy).Contents (Elt F)),
    unary main_v10 main_v11 (broadcastInDim S1x1000 ![1] bcast_S1000_S1x1000_1 : (⟨S1000, .f32⟩ : BufTy).Contents (Elt F) → (⟨S1x1000, .f32⟩ : BufTy).Contents (Elt F)),
    unary main_v11 main_v12 (broadcastInDim S16384x1000 ![0, 1] bcast_S1x1000_S16384x1000_0_1 : (⟨S1x1000, .f32⟩ : BufTy).Contents (Elt F) → (⟨S16384x1000, .f32⟩ : BufTy).Contents (Elt F)),
    binary main_arg0 main_v12 main_v13 (mulf : (⟨S16384x1000, .f32⟩ : BufTy).Contents (Elt F) → (⟨S16384x1000, .f32⟩ : BufTy).Contents (Elt F) → (⟨S16384x1000, .f32⟩ : BufTy).Contents (Elt F)),
    nullary main_cst_2 (constant S_ .f32 0xFF800000#32),
    binary main_v13 main_cst_2 main_v14 ((fun x v => Host.reduce FloatOps.maximumf x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    binary main_v10 main_v4 main_v15 (subf : (⟨S1000, .f32⟩ : BufTy).Contents (Elt F) → (⟨S1000, .f32⟩ : BufTy).Contents (Elt F) → (⟨S1000, .f32⟩ : BufTy).Contents (Elt F)),
    unary main_v15 main_v16 (broadcastInDim S1x1000 ![1] bcast_S1000_S1x1000_1 : (⟨S1000, .f32⟩ : BufTy).Contents (Elt F) → (⟨S1x1000, .f32⟩ : BufTy).Contents (Elt F)),
    unary main_v16 main_v17 (broadcastInDim S16384x1000 ![0, 1] bcast_S1x1000_S16384x1000_0_1 : (⟨S1x1000, .f32⟩ : BufTy).Contents (Elt F) → (⟨S16384x1000, .f32⟩ : BufTy).Contents (Elt F)),
    binary main_v17 main_arg0 main_v18 (mulf : (⟨S16384x1000, .f32⟩ : BufTy).Contents (Elt F) → (⟨S16384x1000, .f32⟩ : BufTy).Contents (Elt F) → (⟨S16384x1000, .f32⟩ : BufTy).Contents (Elt F)),
    nullary main_cst_3 (constant S_ .f32 0x00000000#32),
    binary main_v18 main_cst_3 main_v19 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_4 (constant S_ .f32 0x3D4CCCCD#32),
    unary main_cst_4 main_v20 (broadcastInDim S16384 ![] bcast_S_S16384 : (⟨S_, .f32⟩ : BufTy).Contents (Elt F) → (⟨S16384, .f32⟩ : BufTy).Contents (Elt F)),
    binary main_v19 main_v20 main_v21 (subf : (⟨S16384, .f32⟩ : BufTy).Contents (Elt F) → (⟨S16384, .f32⟩ : BufTy).Contents (Elt F) → (⟨S16384, .f32⟩ : BufTy).Contents (Elt F)),
    binary main_v14 main_v21 main_v22 (cmpf .olt : (⟨S16384, .f32⟩ : BufTy).Contents (Elt F) → (⟨S16384, .f32⟩ : BufTy).Contents (Elt F) → (⟨S16384, .i1⟩ : BufTy).Contents (Elt F)) ]

set_option maxRecDepth 8192 in
set_option maxHeartbeats 4000000 in
/-- @main is that line. -/
theorem main_line (c : Dev nD) : main (F := F) c = seq line := rfl

/-- No buffer of the reference is scoped, -/
theorem no_scoped_refs : (Finset.univ.filter fun b : Ref sig .tc => b.isScoped) = ∅ := by decide

/-- nor is any semaphore. -/
theorem no_scoped_sems : (Finset.univ.filter fun sm : SemLoc sig => sm.isScoped .tc) = ∅ := by decide

set_option maxRecDepth 8192 in
/-- Every operation of the line stays within the TensorCore's buffers. -/
theorem line_sub : (line : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., unary_bufs_sub .., unary_bufs_sub .., binary_bufs_sub .., nullary_bufs_sub .., binary_bufs_sub .., binary_bufs_sub .., unary_bufs_sub .., unary_bufs_sub .., binary_bufs_sub .., nullary_bufs_sub .., binary_bufs_sub .., nullary_bufs_sub .., unary_bufs_sub .., binary_bufs_sub .., binary_bufs_sub ..⟩

set_option maxRecDepth 8192 in
set_option maxHeartbeats 31200000 in
/-- Every weakly fair execution of the reference ends with the two results at `pred` and `rej` of the arguments
    and the arguments as they were. -/
theorem ends (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = pred (m ((c.tc : Thread nD τ).loc main_arg0)) (m ((c.tc : Thread nD τ).loc main_arg1)) (m ((c.tc : Thread nD τ).loc main_arg2))
      ∧ r.2.mem ((c.tc : Thread nD τ).loc main_v22)
        = rej (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c main_v8).trans ?_, (h c main_v22).trans ?_, (h c main_arg0).trans ?_,
    (h c main_arg1).trans ?_, (h c main_arg2).trans ?_, (h c main_arg3).trans ?_⟩)
    (run_seq no_scoped_refs no_scoped_sems defs main (fun _ => line) main_line (fun _ => line_sub) m ρ) <;>
  · simp only [line, TRef.quaternary, TRef.binary, TRef.nullary, TRef.ternary, TRef.unary, TRef.toBuf, TRef.ofBuf, cast_eq]
    after_results_simp <;> rfl

end Cert.Reject.RefRun

end
-- ==== Proof.ArgMax.lean ====
module
public import proofs.«01_k».proof.Proof.FirstMax
public import proofs.«01_k».proof.Proof.RefRun
public import Idealize.ShloMosaic.Lib.Pipeline.ValueKit

/-! # The reference's arg-max

The reference sweeps the entries of a row, each a score and its class, and keeps of two entries the one of greater score, or of the
lesser class where the scores are equal. So it ends at the first class at which the scores are greatest. -/

@[expose] public section
noncomputable section

namespace Cert.Reject.ArgMax
open Idealize.ShloMosaic Idealize.ShloMosaic.TcCoe

/-- The entries swept for a result index are those of the source indices that drop to it. -/
theorem mem_fiber {α β : Type} {s t : Shape} {axes : List (Fin s.rank)} (x : s.Idx → α) (y : s.Idx → β) (h : s.ReducesTo axes t)
    (j : t.Idx) (e : α × β) : e ∈ Host.argReduceFiber x y h j ↔ ∃ i : s.Idx, h.drop i = j ∧ e = (x i, y i) := by
  unfold Host.argReduceFiber
  simp only [List.mem_map, List.mem_filter, List.mem_finRange, true_and, decide_eq_true_eq]
  constructor
  · rintro ⟨n, hn, rfl⟩
    exact ⟨s.rowMajor.symm n, hn, rfl⟩
  · rintro ⟨i, hi, rfl⟩
    exact ⟨s.rowMajor i, by rw [Equiv.symm_apply_apply]; exact hi, by rw [Equiv.symm_apply_apply]⟩

/-- In a matrix reduced along its columns, the source indices that drop to a row are those of the row. -/
theorem drop_eq_row {n k : ℕ} (h : (⟨2, ![n, k]⟩ : Shape).ReducesTo [1] ⟨1, ![n]⟩) (i : (⟨2, ![n, k]⟩ : Shape).Idx) (r : Fin n) :
    h.drop i = ix1 r ↔ i 0 = r := by
  have hv : (h.drop i 0 : ℕ) = i 0 := Shape.ReducesTo.drop_apply_val h i 0
  constructor
  · intro e
    rw [e] at hv
    exact Fin.ext hv.symm
  · intro e
    rw [eq_ix1 (h.drop i)]
    exact congrArg ix1 (Fin.ext (hv.trans (congrArg Fin.val e)))

/-- The arg-max of a row of a matrix with a thousand columns, by a sweep that keeps the better of two entries. -/
theorem argmax_row {n : ℕ} {u : Shape} (f : Entry → Entry → Entry)
    (hf : ∀ a b, (f a b = a ∧ Better a b) ∨ (f a b = b ∧ Better b a))
    (x : FVec Ideal ⟨2, ![n, 1000]⟩ .f32) (ix : u.Idx → EReal) (iy : u.Idx → BitVec 32)
    (h : (⟨2, ![n, 1000]⟩ : Shape).ReducesTo [1] ⟨1, ![n]⟩) (hu : 0 < u.numel)
    (hx : ix (Shape.Idx.first hu) = ⊥) (hy : iy (Shape.Idx.first hu) = 0#32) (r : Fin n) :
    (Host.argReduce (F := Ideal) (φ := .f32) f x (iotaInDim ⟨2, ![n, 1000]⟩ 32 1) ix iy h hu (ix1 r)).2
      = BitVec.ofNat 32 (first fun j => x (ix2 r j)).val := by
  rw [Ideal.argReduce_eq_reduce2, Host.reduce2_eq_foldl_fiber, hx, hy]
  refine foldl_eq_first f hf _ _ fun e => ?_
  rw [mem_fiber]
  constructor
  · rintro ⟨i, hi, rfl⟩
    have h0 := (drop_eq_row h i r).mp hi
    refine ⟨i 1, ?_⟩
    have hi : i = ix2 r (i 1 : Fin 1000) := by
      rw [eq_ix2 i]
      exact congrArg (fun k : Fin n => ix2 k (i 1 : Fin 1000)) h0
    exact Prod.ext (congrArg x hi) rfl
  · rintro ⟨k, rfl⟩
    exact ⟨ix2 r k, (drop_eq_row h _ r).mpr rfl, rfl⟩

/-- The same for every row at once. -/
theorem argmax_rows {n : ℕ} {u : Shape} (f : Entry → Entry → Entry)
    (hf : ∀ a b, (f a b = a ∧ Better a b) ∨ (f a b = b ∧ Better b a))
    (x : FVec Ideal ⟨2, ![n, 1000]⟩ .f32) (ix : u.Idx → EReal) (iy : u.Idx → BitVec 32)
    (h : (⟨2, ![n, 1000]⟩ : Shape).ReducesTo [1] ⟨1, ![n]⟩) (hu : 0 < u.numel)
    (hx : ix (Shape.Idx.first hu) = ⊥) (hy : iy (Shape.Idx.first hu) = 0#32) :
    (fun j => (Host.argReduce (F := Ideal) (φ := .f32) f x (iotaInDim ⟨2, ![n, 1000]⟩ 32 1) ix iy h hu j).2)
      = fun j => BitVec.ofNat 32 (first fun k => x (ix2 (j 0 : Fin n) k)).val := by
  funext j
  obtain ⟨r, rfl⟩ : ∃ r : Fin n, j = ix1 r := ⟨j 0, eq_ix1 j⟩
  exact argmax_row f hf x ix iy h hu hx hy r

/-- The reference's reducer keeps the better of two entries. -/
theorem reducer_best (a b : Entry) :
    (Cert.ReferenceIdeal.reducer_argmax_f32_i32 (F := Ideal) a b = a ∧ Better a b)
      ∨ (Cert.ReferenceIdeal.reducer_argmax_f32_i32 (F := Ideal) a b = b ∧ Better b a) := by
  obtain ⟨a, i⟩ := a
  obtain ⟨b, j⟩ := b
  have e : Cert.ReferenceIdeal.reducer_argmax_f32_i32 (F := Ideal) (a, i) (b, j)
      = (if b < a then a else b, if b < a ∨ a = b ∧ i.toInt < j.toInt then i else j) := by
    unfold Cert.ReferenceIdeal.reducer_argmax_f32_i32
    simp only [Ideal.cmpf_def, Ideal.cmp, IntOp.cmpi, BitVec.slt]
    by_cases h : b < a <;> by_cases h' : a = b <;> by_cases hi : i.toInt < j.toInt
      <;> simp [h, h', hi, Scalar.select, IntOp.ori, IntOp.andi]
  rw [e]
  unfold Better
  rcases lt_trichotomy b a with h | h | h
  · left
    simp [h]
  · subst h
    by_cases hi : i.toInt < j.toInt
    · left
      simp [hi, hi.le]
    · right
      simp [hi, not_lt.mp hi]
  · right
    simp [h, h.not_gt, h.ne]

/-- Minus infinity. -/
theorem bottom : Ideal.ofBits .f32 0xFF800000#32 = ⊥ := by
  simp [Ideal.ofBits, Ideal.ieee]

end Cert.Reject.ArgMax
-- ==== Proof.RefValue.lean ====
module
public import proofs.«01_k».proof.Proof.RefRun
public import proofs.«01_k».proof.Proof.Rule
public import proofs.«01_k».proof.Proof.ArgMax
public import Idealize.ShloMosaic.Lib.Pipeline.ValueKit
public import Idealize.ShloMosaic.Lib.Routing.OpsSet

/-! # What the reference computes

When every class names one of the ten groups, the two results of the reference at a row are the rule of `Rule`, with the scale and
the mean of each class read at its group. -/

@[expose] public section
noncomputable section

namespace Cert.Reject.RefValue
open Idealize.ShloMosaic.Routing (gather_take1)
open Cert.ReferenceIdeal Cert.ReferenceIdeal.Gen Idealize.ShloMosaic Idealize.ShloMosaic.TcCoe Cert.Reject.RefRun

variable (cls : IVec S1000 32) (grp : Fin 1000 → Fin 10) (hg : ∀ j, cls (ix1 j) = BitVec.ofNat 32 (grp j).val)
include hg

/-- The start index of a class is its group. -/
theorem startCol_apply (j : Fin 1000) : startCol cls (ix2 j 0) = BitVec.ofNat 32 (grp j).val := by
  unfold startCol
  pointwise
  rw [hg]
  generalize grp j = g
  revert g
  decide

/-- Every start index lies in the table. -/
theorem inTable_apply (j : Fin 1000) : inTable cls (ix1 j) = 1#1 := by
  unfold inTable
  pointwise
  rw [show (Finset.univ : Finset (Fin 1)) = {0} from rfl, Finset.fold_singleton, startCol_apply cls grp hg]
  generalize grp j = g
  revert g
  decide

/-- What is taken for a class is the entry of its group. -/
theorem taken_apply (t : FVec Ideal S10 .f32) (j : Fin 1000) : taken t cls (ix1 j) = t (ix1 (grp j)) := by
  unfold taken
  pointwise
  rw [inTable_apply cls grp hg]
  exact gather_take1 gather_S10_S1000x1_S1000_n_0_n_n_0_1_1 rfl rfl rfl rfl t (startCol cls) j (grp j) (startCol_apply cls grp hg j)
    (by decide)

/-- The scale of a class is that of its group. -/
theorem scale_apply (al : FVec Ideal S10 .f32) (j : Fin 1000) : scale cls al (ix1 j) = scaleOf (al (ix1 (grp j))) := by
  unfold scale
  pointwise
  rw [taken_apply cls grp hg]
  pointwise
  exact max_comm _ _

/-- The reciprocal scale of a class. -/
theorem recip_apply (al : FVec Ideal S10 .f32) (j : Fin 1000) :
    recip cls al (ix1 j) = Ideal.div unit (scaleOf (al (ix1 (grp j)))) := by
  unfold recip
  pointwise
  rw [scale_apply cls grp hg]

omit hg in
/-- A row of scales spread under the batch is the same in every row. -/
theorem spread_apply (v : FVec Ideal S1000 .f32) (n : Fin 16384) (j : Fin 1000) : spread v (ix2 n j) = v (ix1 j) := by
  unfold spread
  pointwise

variable (p : FVec Ideal S16384x1000 .f32) (al mu : FVec Ideal S10 .f32) (n : Fin 16384)

/-- A row of the posterior. -/
abbrev rowAt : Scores := fun j => p (ix2 n j)
/-- The scale of a class, by its group. -/
abbrev scaleAt (j : Fin 1000) : EReal := scaleOf (al (ix1 (grp j)))
/-- The mean of a class, by its group. -/
abbrev meanAt (j : Fin 1000) : EReal := mu (ix1 (grp j))

/-- The greatest weighted posterior of a row is its greatest score. -/
theorem top_apply : top p cls al (ix1 n) = peak (scoresOf (rowAt p n) (scaleAt grp al)) := by
  unfold top
  pointwise
  rw [← fold_max_eq_peak]
  rw [ArgMax.bottom]
  refine congrArg (fun f => Finset.fold max ⊥ f Finset.univ) (funext fun j => ?_)
  rw [spread_apply, recip_apply cls grp hg]
  exact (div_eq_mul_recip _ (scaleOf_pos _)).symm

/-- The reference's threshold of a row is the rule's. -/
theorem threshold_apply : threshold p cls al mu (ix1 n) = thresholdOf (rowAt p n) (scaleAt grp al) (meanAt grp mu) := by
  unfold threshold
  pointwise
  simp only [spread_apply]
  unfold thresholdOf
  congr 1
  refine Finset.sum_congr rfl fun j _ => ?_
  pointwise
  rw [recip_apply cls grp hg, taken_apply cls grp hg, unit_eq]

open Classical in
/-- The reference's rejection of a row is the rule's. -/
theorem rej_apply : rej p cls al mu (ix1 n) = if Rejected (rowAt p n) (scaleAt grp al) (meanAt grp mu) then 1#1 else 0#1 := by
  unfold rej
  pointwise
  rw [top_apply cls grp hg, threshold_apply cls grp hg]
  unfold Rejected
  split <;> simp [*]

omit hg in
/-- The scores that the reference compares. -/
theorem scores_apply (j : Fin 1000) :
    Host.divf p (spread (scale cls al)) (ix2 n j) = Ideal.div (p (ix2 n j)) (scale cls al (ix1 j)) := by
  pointwise
  rw [spread_apply]

omit hg in
/-- The reference's predictions are the first classes of greatest score, row by row. -/
theorem pred_rows : pred p cls al
    = fun j => BitVec.ofNat 32 (first fun k => Host.divf p (spread (scale cls al)) (ix2 (j 0 : Fin 16384) k)).val := by
  have h0 : (constant (F := Ideal) S_ .f32 0xFF800000#32) (Shape.Idx.first h_S_) = ⊥ := ArgMax.bottom
  have h1 : (constantI S_ 32 0#32) (Shape.Idx.first h_S_) = 0#32 := rfl
  have h := @ArgMax.argmax_rows 16384 S_ (reducer_argmax_f32_i32 (F := Ideal)) ArgMax.reducer_best
    (Host.divf p (spread (scale cls al)))
  have h := h (constant (F := Ideal) S_ .f32 0xFF800000#32) (constantI S_ 32 0#32)
  have h := h reducesTo_S16384x1000_S16384_d1
  have h := h h_S_ h0 h1
  unfold pred
  exact h

/-- The reference's predicted class of a row. -/
theorem pred_apply : pred p cls al (ix1 n) = predOf (rowAt p n) (scaleAt grp al) := by
  refine (congrFun (pred_rows cls p al) (ix1 n)).trans ?_
  unfold predOf scoresOf
  refine congrArg (fun x => BitVec.ofNat 32 (first x).val) (funext fun j => ?_)
  exact (scores_apply cls p al n j).trans (congrArg (Ideal.div (p (ix2 n j))) (scale_apply cls grp hg al j))

end Cert.Reject.RefValue
-- ==== Proof.Equation.lean ====
module
public import proofs.«01_k».proof.Proof.KernelRun
public import proofs.«01_k».proof.Proof.RefValue
public import proofs.«01_k».proof.Defs

/-! # The equation

When every class names one of the ten groups, the two results of the kernel are the two results of the reference. -/

@[expose] public section
noncomputable section

namespace Cert.Reject.Equation
open Idealize.ShloMosaic Idealize.ShloMosaic.TcCoe Idealize.SL.Sem Cert.KernelIdeal Cert.Reject.Arrays Cert.Reject.Block

/-- A word that is at least zero and under ten is the word of one of the ten groups. -/
theorem word_group (w : BitVec 32) (h : IntOp.andi (IntOp.cmpi .sge w 0#32) (IntOp.cmpi .slt w 10#32) = 1#1) :
    ∃ g : Fin 10, w = BitVec.ofNat 32 g.val := by
  have hw : 0 ≤ w.toInt ∧ w.toInt < 10 := by
    by_cases h1 : 0 ≤ w.toInt <;> by_cases h2 : w.toInt < 10
    · exact ⟨h1, h2⟩
    all_goals simp [IntOp.andi, IntOp.cmpi, BitVec.slt, BitVec.sle, h1, h2] at h
  have hn : w.toNat < 10 := by
    have := BitVec.toInt_eq_toNat_cond w
    have := w.isLt
    split at * <;> omega
  exact ⟨⟨w.toNat, hn⟩, by rw [BitVec.ofNat_toNat, BitVec.setWidth_eq]⟩

/-- What the precondition says: every class has a group. -/
theorem group_of_pre [Cert.Pre_classes_in_range.Facts] (m : (ℓ : Loc nD τ sig) → Buf (Elt Ideal) ℓ)
    (h : Cert.Pre_KernelIdeal_classes_in_range m) (c : Dev nD) :
    ∃ grp : Fin 1000 → Fin 10, ∀ j, groupsOf m c (ix1 j) = BitVec.ofNat 32 (grp j).val := by
  have each (j : Fin 1000) : ∃ g : Fin 10, groupsOf m c (ix1 j) = BitVec.ofNat 32 g.val := by
    refine word_group _ ?_
    have e := congrFun (h c) (ix1 j)
    unfold Cert.Pre_classes_in_range.fn at e
    pointwise at e
    exact e
  choose grp hgrp using each
  exact ⟨grp, hgrp⟩

section
variable (m : (ℓ : Loc nD τ sig) → Buf (Elt Ideal) ℓ) (c : Dev nD) (grp : Fin 1000 → Fin 10)
  (hg : ∀ j, groupsOf m c (ix1 j) = BitVec.ofNat 32 (grp j).val)
include hg

/-- The kernel's table of scales holds at a class the scale of its group. -/
theorem scale_eq : scaleAt m c = RefValue.scaleAt grp (alpha m c) :=
  funext fun j => scales_apply _ _ j (grp j) ((classes_apply m c start j).trans (hg j))

/-- Its table of weights holds there the reciprocal scale minus the mean. -/
theorem weight_eq (j : Fin 1000) :
    weightAt m c j = Ideal.div unit (RefValue.scaleAt grp (alpha m c) j) - RefValue.meanAt grp (mean m c) j :=
  weights_apply _ _ _ j (grp j) ((classes_apply m c start j).trans (hg j))

/-- Result 1: the kernel's predictions are the reference's. -/
theorem predicted_eq : KernelRun.predicted m c = RefRun.pred (F := Ideal) (Arrays.post m c) (groupsOf m c) (alpha m c) := by
  funext i
  obtain ⟨n, rfl⟩ : ∃ n : Fin 16384, i = ix1 n := ⟨i 0, eq_ix1 i⟩
  refine Eq.trans ?_ (RefValue.pred_apply (groupsOf m c) grp hg (Arrays.post m c) (alpha m c) n).symm
  show predOf (row m c n) (scaleAt m c) = _
  rw [scale_eq m c grp hg]

/-- Result 2: the kernel's rejections are the reference's. -/
theorem rejected_eq : KernelRun.rejected m c = RefRun.rej (F := Ideal) (Arrays.post m c) (groupsOf m c) (alpha m c) (mean m c) := by
  classical
  funext i
  obtain ⟨n, rfl⟩ : ∃ n : Fin 16384, i = ix1 n := ⟨i 0, eq_ix1 i⟩
  refine Eq.trans ?_ (RefValue.rej_apply (groupsOf m c) grp hg (Arrays.post m c) (alpha m c) (mean m c) n).symm
  show IntOp.cmpi .ne (flagAt m c n) 0#32 = _
  unfold flagAt Rejected thresholdOf
  rw [scale_eq m c grp hg, Finset.sum_congr rfl fun j _ => congrArg (· * row m c n j) (weight_eq m c grp hg j)]
  by_cases h : peak (scoresOf (row m c n) (RefValue.scaleAt grp (alpha m c)))
      < (∑ j, (Ideal.div unit (RefValue.scaleAt grp (alpha m c) j) - RefValue.meanAt grp (mean m c) j) * row m c n j) - cost
  · rw [if_pos h, if_pos h]
    rfl
  · rw [if_neg h, if_neg h]
    rfl

end

end Cert.Reject.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The one stated fact of the precondition: a scalar is laid over the classes. -/
theorem pre_facts : Cert.Pre_classes_in_range.Facts where
  bcast_S_S1000 := by decide

/-- The reference runs, its arguments unchanged; it has no counters, so they end at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2, sem_eq_zero_of_no_sems (by decide) r.2⟩) (Cert.Reject.RefRun.ends m ρ)

/-- The kernel and the reference end with equal results, where every class names a group. -/
theorem equal_results [Cert.Pre_classes_in_range.Facts] :
    Cert.algebraic_KernelIdeal_ReferenceIdeal_pre_classes_in_range := by
  intro m g m' g' hpre hargs
  refine ⟨Cert.Reject.KernelRun.predicted m, Cert.Reject.KernelRun.rejected m, Cert.Reject.KernelRun.ends m g, ?_⟩
  refine (θ_run Cert.ReferenceIdeal.defs _ _).mono (fun r h c => ?_) (Cert.Reject.RefRun.ends m' g')
  obtain ⟨h0, h1, h2⟩ := h c
  obtain ⟨a0, a1, a2, a3⟩ := hargs c
  obtain ⟨grp, hg⟩ := Cert.Reject.Equation.group_of_pre m hpre c
  refine ⟨h0.trans ?_, h1.trans ?_, h2⟩
  · rw [a0, a1, a2]
    exact (Cert.Reject.Equation.predicted_eq m c grp hg).symm
  · rw [a0, a1, a2, a3]
    exact (Cert.Reject.Equation.rejected_eq m c grp hg).symm

/-- All the claims. -/
theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    letI := pre_facts
    equal_results⟩

end Cert.Proof

end
